-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x1024 .f32) : IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  main_v2
-- ==== Kernel.lean ====
abbrev S16384x1024 : Shape := ⟨2, ![16384, 1024]⟩
abbrev S512x1024 : Shape := ⟨2, ![512, 1024]⟩
abbrev S512x1023 : Shape := ⟨2, ![512, 1023]⟩
abbrev S512x1 : Shape := ⟨2, ![512, 1]⟩
abbrev S512x31 : Shape := ⟨2, ![512, 31]⟩
abbrev S512x993 : Shape := ⟨2, ![512, 993]⟩
abbrev S512x1022 : Shape := ⟨2, ![512, 1022]⟩
abbrev S512x2 : Shape := ⟨2, ![512, 2]⟩
abbrev S512x30 : Shape := ⟨2, ![512, 30]⟩
abbrev S512x994 : Shape := ⟨2, ![512, 994]⟩
abbrev S512x1020 : Shape := ⟨2, ![512, 1020]⟩
abbrev S512x4 : Shape := ⟨2, ![512, 4]⟩
abbrev S512x28 : Shape := ⟨2, ![512, 28]⟩
abbrev S512x996 : Shape := ⟨2, ![512, 996]⟩
abbrev S512x1016 : Shape := ⟨2, ![512, 1016]⟩
abbrev S512x8 : Shape := ⟨2, ![512, 8]⟩
abbrev S512x24 : Shape := ⟨2, ![512, 24]⟩
abbrev S512x1000 : Shape := ⟨2, ![512, 1000]⟩
abbrev S512x1008 : Shape := ⟨2, ![512, 1008]⟩
abbrev S512x16 : Shape := ⟨2, ![512, 16]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x1024 : Shape := ⟨2, ![16384, 1024]⟩
abbrev S16384x32x32 : Shape := ⟨3, ![16384, 32, 32]⟩
abbrev S_ : Shape := ⟨0, ![]⟩
abbrev S16384x32 : Shape := ⟨2, ![16384, 32]⟩
abbrev S16384x32x1 : Shape := ⟨3, ![16384, 32, 1]⟩
abbrev S1 : Shape := ⟨1, ![1]⟩
abbrev S2 : Shape := ⟨1, ![2]⟩
abbrev S1x1x32 : Shape := ⟨3, ![1, 1, 32]⟩

abbrev nBuf : Space → Nat
  | .hbm => 323
  | .vmem => 0
  | .smem => 0
  | _ => 0

abbrev hbmTy0_0 (i : Nat) : BufTy := match i % 128 with
  | 0 => ⟨S16384x1024, .f32⟩
  | 1 => ⟨S16384x32x32, .f32⟩
  | 2 => ⟨S_, .f32⟩
  | 3 => ⟨S16384x32, .f32⟩
  | 4 => ⟨S_, .f32⟩
  | 5 => ⟨S16384x32, .f32⟩
  | 6 => ⟨S16384x32, .f32⟩
  | 7 => ⟨S16384x32x1, .f32⟩
  | 8 => ⟨S16384x32x32, .f32⟩
  | 9 => ⟨S16384x32x32, .f32⟩
  | 10 => ⟨S16384x32x32, .f32⟩
  | 11 => ⟨S_, .f32⟩
  | 12 => ⟨S16384x32, .f32⟩
  | 13 => ⟨S16384x32x1, .f32⟩
  | 14 => ⟨S16384x32x32, .f32⟩
  | 15 => ⟨S16384x32x32, .f32⟩
  | 16 => ⟨S_, .f32⟩
  | 17 => ⟨S16384x32x32, .f32⟩
  | 18 => ⟨S_, .f32⟩
  | 19 => ⟨S16384x32x32, .f32⟩
  | 20 => ⟨S16384x32x32, .f32⟩
  | 21 => ⟨S_, .f32⟩
  | 22 => ⟨S16384x32x32, .f32⟩
  | 23 => ⟨S16384x32x32, .f32⟩
  | 24 => ⟨S_, .f32⟩
  | 25 => ⟨S16384x32x32, .f32⟩
  | 26 => ⟨S16384x32x32, .f32⟩
  | 27 => ⟨S16384x32x32, .f32⟩
  | 28 => ⟨S_, .i32⟩
  | 29 => ⟨S_, .i32⟩
  | 30 => ⟨S_, .i32⟩
  | 31 => ⟨S_, .i32⟩
  | 32 => ⟨S1, .i32⟩
  | 33 => ⟨S_, .i32⟩
  | 34 => ⟨S_, .i32⟩
  | 35 => ⟨S_, .i32⟩
  | 36 => ⟨S1, .i32⟩
  | 37 => ⟨S2, .i32⟩
  | 38 => ⟨S16384x32x32, .f32⟩
  | 39 => ⟨S1, .i32⟩
  | 40 => ⟨S_, .i32⟩
  | 41 => ⟨S1, .i32⟩
  | 42 => ⟨S_, .i32⟩
  | 43 => ⟨S16384x32x32, .i64⟩
  | 44 => ⟨S16384x32x32, .i64⟩
  | 45 => ⟨S16384x32x32, .i64⟩
  | 46 => ⟨S_, .i64⟩
  | 47 => ⟨S16384x32x32, .i64⟩
  | 48 => ⟨S16384x32x32, .i64⟩
  | 49 => ⟨S_, .i64⟩
  | 50 => ⟨S16384x32x32, .i64⟩
  | 51 => ⟨S16384x32x32, .i64⟩
  | 52 => ⟨S_, .i64⟩
  | 53 => ⟨S16384x32x32, .i64⟩
  | 54 => ⟨S16384x32x32, .i64⟩
  | 55 => ⟨S16384x32x32, .i64⟩
  | 56 => ⟨S16384x32x32, .i64⟩
  | 57 => ⟨S_, .i64⟩
  | 58 => ⟨S16384x32x32, .i64⟩
  | 59 => ⟨S16384x32x32, .i64⟩
  | 60 => ⟨S16384x32x32, .i32⟩
  | 61 => ⟨S16384x32x32, .i32⟩
  | 62 => ⟨S_, .i32⟩
  | 63 => ⟨S_, .i32⟩
  | 64 => ⟨S_, .i32⟩
  | 65 => ⟨S16384x32x32, .i32⟩
  | 66 => ⟨S16384x32x32, .i32⟩
  | 67 => ⟨S16384x32x32, .i32⟩
  | 68 => ⟨S16384x32x32, .i32⟩
  | 69 => ⟨S16384x32x32, .i32⟩
  | 70 => ⟨S_, .i32⟩
  | 71 => ⟨S16384x32x32, .i32⟩
  | 72 => ⟨S16384x32x32, .i32⟩
  | 73 => ⟨S_, .i32⟩
  | 74 => ⟨S16384x32x32, .i32⟩
  | 75 => ⟨S16384x32x32, .i32⟩
  | 76 => ⟨S16384x32x32, .i32⟩
  | 77 => ⟨S16384x32x32, .i32⟩
  | 78 => ⟨S16384x32x32, .i32⟩
  | 79 => ⟨S_, .i32⟩
  | 80 => ⟨S16384x32x32, .i32⟩
  | 81 => ⟨S16384x32x32, .i32⟩
  | 82 => ⟨S_, .i32⟩
  | 83 => ⟨S16384x32x32, .i32⟩
  | 84 => ⟨S16384x32x32, .i32⟩
  | 85 => ⟨S16384x32x32, .i32⟩
  | 86 => ⟨S16384x32x32, .i32⟩
  | 87 => ⟨S16384x32x32, .i32⟩
  | 88 => ⟨S_, .i32⟩
  | 89 => ⟨S16384x32x32, .i32⟩
  | 90 => ⟨S16384x32x32, .i32⟩
  | 91 => ⟨S_, .i32⟩
  | 92 => ⟨S16384x32x32, .i32⟩
  | 93 => ⟨S16384x32x32, .i32⟩
  | 94 => ⟨S16384x32x32, .i32⟩
  | 95 => ⟨S16384x32x32, .i32⟩
  | 96 => ⟨S16384x32x32, .i32⟩
  | 97 => ⟨S_, .i32⟩
  | 98 => ⟨S16384x32x32, .i32⟩
  | 99 => ⟨S16384x32x32, .i32⟩
  | 100 => ⟨S_, .i32⟩
  | 101 => ⟨S16384x32x32, .i32⟩
  | 102 => ⟨S16384x32x32, .i32⟩
  | 103 => ⟨S16384x32x32, .i32⟩
  | 104 => ⟨S16384x32x32, .i32⟩
  | 105 => ⟨S16384x32x32, .i32⟩
  | 106 => ⟨S16384x32x32, .i32⟩
  | 107 => ⟨S16384x32x32, .i32⟩
  | 108 => ⟨S16384x32x32, .i32⟩
  | 109 => ⟨S_, .i32⟩
  | 110 => ⟨S16384x32x32, .i32⟩
  | 111 => ⟨S16384x32x32, .i32⟩
  | 112 => ⟨S16384x32x32, .i32⟩
  | 113 => ⟨S_, .i32⟩
  | 114 => ⟨S16384x32x32, .i32⟩
  | 115 => ⟨S16384x32x32, .i32⟩
  | 116 => ⟨S_, .i32⟩
  | 117 => ⟨S16384x32x32, .i32⟩
  | 118 => ⟨S16384x32x32, .i32⟩
  | 119 => ⟨S16384x32x32, .i32⟩
  | 120 => ⟨S16384x32x32, .i32⟩
  | 121 => ⟨S16384x32x32, .i32⟩
  | 122 => ⟨S_, .i32⟩
  | 123 => ⟨S16384x32x32, .i32⟩
  | 124 => ⟨S16384x32x32, .i32⟩
  | 125 => ⟨S_, .i32⟩
  | 126 => ⟨S16384x32x32, .i32⟩
  | 127 => ⟨S16384x32x32, .i32⟩
  | _ => ⟨S16384x1024, .f32⟩

abbrev hbmTy0_1 (i : Nat) : BufTy := match i % 128 with
  | 0 => ⟨S16384x32x32, .i32⟩
  | 1 => ⟨S16384x32x32, .i32⟩
  | 2 => ⟨S16384x32x32, .i32⟩
  | 3 => ⟨S_, .i32⟩
  | 4 => ⟨S16384x32x32, .i32⟩
  | 5 => ⟨S16384x32x32, .i32⟩
  | 6 => ⟨S_, .i32⟩
  | 7 => ⟨S16384x32x32, .i32⟩
  | 8 => ⟨S16384x32x32, .i32⟩
  | 9 => ⟨S16384x32x32, .i32⟩
  | 10 => ⟨S16384x32x32, .i32⟩
  | 11 => ⟨S16384x32x32, .i32⟩
  | 12 => ⟨S_, .i32⟩
  | 13 => ⟨S16384x32x32, .i32⟩
  | 14 => ⟨S16384x32x32, .i32⟩
  | 15 => ⟨S_, .i32⟩
  | 16 => ⟨S16384x32x32, .i32⟩
  | 17 => ⟨S16384x32x32, .i32⟩
  | 18 => ⟨S16384x32x32, .i32⟩
  | 19 => ⟨S16384x32x32, .i32⟩
  | 20 => ⟨S16384x32x32, .i32⟩
  | 21 => ⟨S16384x32x32, .i32⟩
  | 22 => ⟨S16384x32x32, .i32⟩
  | 23 => ⟨S16384x32x32, .i32⟩
  | 24 => ⟨S_, .i32⟩
  | 25 => ⟨S16384x32x32, .i32⟩
  | 26 => ⟨S16384x32x32, .i32⟩
  | 27 => ⟨S16384x32x32, .i32⟩
  | 28 => ⟨S_, .i32⟩
  | 29 => ⟨S16384x32x32, .i32⟩
  | 30 => ⟨S16384x32x32, .i32⟩
  | 31 => ⟨S_, .i32⟩
  | 32 => ⟨S16384x32x32, .i32⟩
  | 33 => ⟨S16384x32x32, .i32⟩
  | 34 => ⟨S16384x32x32, .i32⟩
  | 35 => ⟨S16384x32x32, .i32⟩
  | 36 => ⟨S16384x32x32, .i32⟩
  | 37 => ⟨S_, .i32⟩
  | 38 => ⟨S16384x32x32, .i32⟩
  | 39 => ⟨S16384x32x32, .i32⟩
  | 40 => ⟨S_, .i32⟩
  | 41 => ⟨S16384x32x32, .i32⟩
  | 42 => ⟨S16384x32x32, .i32⟩
  | 43 => ⟨S16384x32x32, .i32⟩
  | 44 => ⟨S16384x32x32, .i32⟩
  | 45 => ⟨S16384x32x32, .i32⟩
  | 46 => ⟨S_, .i32⟩
  | 47 => ⟨S16384x32x32, .i32⟩
  | 48 => ⟨S16384x32x32, .i32⟩
  | 49 => ⟨S_, .i32⟩
  | 50 => ⟨S16384x32x32, .i32⟩
  | 51 => ⟨S16384x32x32, .i32⟩
  | 52 => ⟨S16384x32x32, .i32⟩
  | 53 => ⟨S16384x32x32, .i32⟩
  | 54 => ⟨S16384x32x32, .i32⟩
  | 55 => ⟨S_, .i32⟩
  | 56 => ⟨S16384x32x32, .i32⟩
  | 57 => ⟨S16384x32x32, .i32⟩
  | 58 => ⟨S_, .i32⟩
  | 59 => ⟨S16384x32x32, .i32⟩
  | 60 => ⟨S16384x32x32, .i32⟩
  | 61 => ⟨S16384x32x32, .i32⟩
  | 62 => ⟨S16384x32x32, .i32⟩
  | 63 => ⟨S16384x32x32, .i32⟩
  | 64 => ⟨S16384x32x32, .i32⟩
  | 65 => ⟨S16384x32x32, .i32⟩
  | 66 => ⟨S16384x32x32, .i32⟩
  | 67 => ⟨S_, .i32⟩
  | 68 => ⟨S16384x32x32, .i32⟩
  | 69 => ⟨S16384x32x32, .i32⟩
  | 70 => ⟨S16384x32x32, .i32⟩
  | 71 => ⟨S_, .i32⟩
  | 72 => ⟨S16384x32x32, .i32⟩
  | 73 => ⟨S16384x32x32, .i32⟩
  | 74 => ⟨S_, .i32⟩
  | 75 => ⟨S16384x32x32, .i32⟩
  | 76 => ⟨S16384x32x32, .i32⟩
  | 77 => ⟨S16384x32x32, .i32⟩
  | 78 => ⟨S16384x32x32, .i32⟩
  | 79 => ⟨S16384x32x32, .i32⟩
  | 80 => ⟨S_, .i32⟩
  | 81 => ⟨S16384x32x32, .i32⟩
  | 82 => ⟨S16384x32x32, .i32⟩
  | 83 => ⟨S_, .i32⟩
  | 84 => ⟨S16384x32x32, .i32⟩
  | 85 => ⟨S16384x32x32, .i32⟩
  | 86 => ⟨S16384x32x32, .i32⟩
  | 87 => ⟨S16384x32x32, .i32⟩
  | 88 => ⟨S16384x32x32, .i32⟩
  | 89 => ⟨S_, .i32⟩
  | 90 => ⟨S16384x32x32, .i32⟩
  | 91 => ⟨S16384x32x32, .i32⟩
  | 92 => ⟨S_, .i32⟩
  | 93 => ⟨S16384x32x32, .i32⟩
  | 94 => ⟨S16384x32x32, .i32⟩
  | 95 => ⟨S16384x32x32, .i32⟩
  | 96 => ⟨S16384x32x32, .i32⟩
  | 97 => ⟨S16384x32x32, .i32⟩
  | 98 => ⟨S_, .i32⟩
  | 99 => ⟨S16384x32x32, .i32⟩
  | 100 => ⟨S16384x32x32, .i32⟩
  | 101 => ⟨S_, .i32⟩
  | 102 => ⟨S16384x32x32, .i32⟩
  | 103 => ⟨S16384x32x32, .i32⟩
  | 104 => ⟨S16384x32x32, .i32⟩
  | 105 => ⟨S16384x32x32, .i32⟩
  | 106 => ⟨S16384x32x32, .i32⟩
  | 107 => ⟨S16384x32x32, .i32⟩
  | 108 => ⟨S16384x32x32, .i32⟩
  | 109 => ⟨S16384x32x32, .i32⟩
  | 110 => ⟨S_, .i32⟩
  | 111 => ⟨S16384x32x32, .i32⟩
  | 112 => ⟨S16384x32x32, .i32⟩
  | 113 => ⟨S16384x32x32, .i32⟩
  | 114 => ⟨S_, .i32⟩
  | 115 => ⟨S16384x32x32, .i32⟩
  | 116 => ⟨S16384x32x32, .i32⟩
  | 117 => ⟨S_, .i32⟩
  | 118 => ⟨S16384x32x32, .i32⟩
  | 119 => ⟨S16384x32x32, .i32⟩
  | 120 => ⟨S16384x32x32, .i32⟩
  | 121 => ⟨S16384x32x32, .i32⟩
  | 122 => ⟨S16384x32x32, .i32⟩
  | 123 => ⟨S_, .i32⟩
  | 124 => ⟨S16384x32x32, .i32⟩
  | 125 => ⟨S16384x32x32, .i32⟩
  | 126 => ⟨S_, .i32⟩
  | 127 => ⟨S16384x32x32, .i32⟩
  | _ => ⟨S16384x1024, .f32⟩

abbrev hbmTy0_2 (i : Nat) : BufTy := match i % 128 with
  | 0 => ⟨S16384x32x32, .i32⟩
  | 1 => ⟨S16384x32x32, .i32⟩
  | 2 => ⟨S16384x32x32, .i32⟩
  | 3 => ⟨S16384x32x32, .i32⟩
  | 4 => ⟨S_, .i32⟩
  | 5 => ⟨S16384x32x32, .i32⟩
  | 6 => ⟨S16384x32x32, .i32⟩
  | 7 => ⟨S_, .i32⟩
  | 8 => ⟨S16384x32x32, .i32⟩
  | 9 => ⟨S16384x32x32, .i32⟩
  | 10 => ⟨S16384x32x32, .i32⟩
  | 11 => ⟨S16384x32x32, .i32⟩
  | 12 => ⟨S16384x32x32, .i32⟩
  | 13 => ⟨S_, .i32⟩
  | 14 => ⟨S16384x32x32, .i32⟩
  | 15 => ⟨S16384x32x32, .i32⟩
  | 16 => ⟨S_, .i32⟩
  | 17 => ⟨S16384x32x32, .i32⟩
  | 18 => ⟨S16384x32x32, .i32⟩
  | 19 => ⟨S16384x32x32, .i32⟩
  | 20 => ⟨S16384x32x32, .i32⟩
  | 21 => ⟨S16384x32x32, .i32⟩
  | 22 => ⟨S16384x32x32, .i32⟩
  | 23 => ⟨S16384x32x32, .i32⟩
  | 24 => ⟨S16384x32x32, .i32⟩
  | 25 => ⟨S_, .i32⟩
  | 26 => ⟨S16384x32x32, .i32⟩
  | 27 => ⟨S16384x32x32, .i32⟩
  | 28 => ⟨S16384x32x32, .i32⟩
  | 29 => ⟨S_, .i32⟩
  | 30 => ⟨S16384x32x32, .i32⟩
  | 31 => ⟨S16384x32x32, .i32⟩
  | 32 => ⟨S_, .i32⟩
  | 33 => ⟨S16384x32x32, .i32⟩
  | 34 => ⟨S16384x32x32, .i32⟩
  | 35 => ⟨S16384x32x32, .f32⟩
  | 36 => ⟨S_, .f32⟩
  | 37 => ⟨S16384x32x32, .f32⟩
  | 38 => ⟨S16384x32x32, .f32⟩
  | 39 => ⟨S_, .f32⟩
  | 40 => ⟨S16384x32x32, .f32⟩
  | 41 => ⟨S16384x32x32, .f32⟩
  | 42 => ⟨S_, .f32⟩
  | 43 => ⟨S16384x32x32, .f32⟩
  | 44 => ⟨S16384x32x32, .f32⟩
  | 45 => ⟨S_, .f32⟩
  | 46 => ⟨S16384x32x32, .f32⟩
  | 47 => ⟨S16384x32x32, .f32⟩
  | 48 => ⟨S16384x32x32, .f32⟩
  | 49 => ⟨S16384x32x32, .f32⟩
  | 50 => ⟨S16384x32x32, .f32⟩
  | 51 => ⟨S16384x32x32, .f32⟩
  | 52 => ⟨S16384x32x32, .f32⟩
  | 53 => ⟨S16384x32x32, .i32⟩
  | 54 => ⟨S_, .f32⟩
  | 55 => ⟨S_, .i32⟩
  | 56 => ⟨S16384x32, .f32⟩
  | 57 => ⟨S16384x32, .i32⟩
  | 58 => ⟨S16384x32x1, .i32⟩
  | 59 => ⟨S1x1x32, .i32⟩
  | 60 => ⟨S16384x32x32, .i32⟩
  | 61 => ⟨S16384x32x32, .i32⟩
  | 62 => ⟨S16384x32x32, .i1⟩
  | 63 => ⟨S16384x32x32, .f32⟩
  | 64 => ⟨S16384x32x32, .f32⟩
  | 65 => ⟨S16384x32x32, .f32⟩
  | 66 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_c_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_8 : Ref sig .tc := ⟨.hbm, 46, rfl⟩
abbrev main_v35 : Ref sig .tc := ⟨.hbm, 47, rfl⟩
abbrev main_v36 : Ref sig .tc := ⟨.hbm, 48, rfl⟩
abbrev main_c_9 : Ref sig .tc := ⟨.hbm, 49, rfl⟩
abbrev main_v37 : Ref sig .tc := ⟨.hbm, 50, rfl⟩
abbrev main_v38 : Ref sig .tc := ⟨.hbm, 51, rfl⟩
abbrev main_c_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_11 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_c_0 : Ref sig .tc := ⟨.hbm, 70, rfl⟩
abbrev main_call0_v7 : Ref sig .tc := ⟨.hbm, 71, rfl⟩
abbrev main_call0_v8 : Ref sig .tc := ⟨.hbm, 72, rfl⟩
abbrev main_call0_c_1 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_v12 : Ref sig .tc := ⟨.hbm, 77, rfl⟩
abbrev main_call0_v13 : Ref sig .tc := ⟨.hbm, 78, rfl⟩
abbrev main_call0_c_2 : Ref sig .tc := ⟨.hbm, 79, rfl⟩
abbrev main_call0_v14 : Ref sig .tc := ⟨.hbm, 80, rfl⟩
abbrev main_call0_v15 : Ref sig .tc := ⟨.hbm, 81, rfl⟩
abbrev main_call0_c_3 : Ref sig .tc := ⟨.hbm, 82, rfl⟩
abbrev main_call0_v16 : Ref sig .tc := ⟨.hbm, 83, rfl⟩
abbrev main_call0_v17 : Ref sig .tc := ⟨.hbm, 84, rfl⟩
abbrev main_call0_v18 : Ref sig .tc := ⟨.hbm, 85, rfl⟩
abbrev main_call0_v19 : Ref sig .tc := ⟨.hbm, 86, rfl⟩
abbrev main_call0_v20 : Ref sig .tc := ⟨.hbm, 87, rfl⟩
abbrev main_call0_c_4 : Ref sig .tc := ⟨.hbm, 88, rfl⟩
abbrev main_call0_v21 : Ref sig .tc := ⟨.hbm, 89, rfl⟩
abbrev main_call0_v22 : Ref sig .tc := ⟨.hbm, 90, rfl⟩
abbrev main_call0_c_5 : Ref sig .tc := ⟨.hbm, 91, rfl⟩
abbrev main_call0_v23 : Ref sig .tc := ⟨.hbm, 92, rfl⟩
abbrev main_call0_v24 : Ref sig .tc := ⟨.hbm, 93, rfl⟩
abbrev main_call0_v25 : Ref sig .tc := ⟨.hbm, 94, rfl⟩
abbrev main_call0_v26 : Ref sig .tc := ⟨.hbm, 95, rfl⟩
abbrev main_call0_v27 : Ref sig .tc := ⟨.hbm, 96, rfl⟩
abbrev main_call0_c_6 : Ref sig .tc := ⟨.hbm, 97, rfl⟩
abbrev main_call0_v28 : Ref sig .tc := ⟨.hbm, 98, rfl⟩
abbrev main_call0_v29 : Ref sig .tc := ⟨.hbm, 99, rfl⟩
abbrev main_call0_c_7 : Ref sig .tc := ⟨.hbm, 100, rfl⟩
abbrev main_call0_v30 : Ref sig .tc := ⟨.hbm, 101, rfl⟩
abbrev main_call0_v31 : Ref sig .tc := ⟨.hbm, 102, rfl⟩
abbrev main_call0_v32 : Ref sig .tc := ⟨.hbm, 103, rfl⟩
abbrev main_call0_v33 : Ref sig .tc := ⟨.hbm, 104, rfl⟩
abbrev main_call0_v34 : Ref sig .tc := ⟨.hbm, 105, rfl⟩
abbrev main_call0_v35 : Ref sig .tc := ⟨.hbm, 106, rfl⟩
abbrev main_call0_v36 : Ref sig .tc := ⟨.hbm, 107, rfl⟩
abbrev main_call0_v37 : Ref sig .tc := ⟨.hbm, 108, rfl⟩
abbrev main_call0_c_8 : Ref sig .tc := ⟨.hbm, 109, rfl⟩
abbrev main_call0_v38 : Ref sig .tc := ⟨.hbm, 110, rfl⟩
abbrev main_call0_v39 : Ref sig .tc := ⟨.hbm, 111, rfl⟩
abbrev main_call0_v40 : Ref sig .tc := ⟨.hbm, 112, rfl⟩
abbrev main_call0_c_9 : Ref sig .tc := ⟨.hbm, 113, rfl⟩
abbrev main_call0_v41 : Ref sig .tc := ⟨.hbm, 114, rfl⟩
abbrev main_call0_v42 : Ref sig .tc := ⟨.hbm, 115, rfl⟩
abbrev main_call0_c_10 : Ref sig .tc := ⟨.hbm, 116, rfl⟩
abbrev main_call0_v43 : Ref sig .tc := ⟨.hbm, 117, rfl⟩
abbrev main_call0_v44 : Ref sig .tc := ⟨.hbm, 118, rfl⟩
abbrev main_call0_v45 : Ref sig .tc := ⟨.hbm, 119, rfl⟩
abbrev main_call0_v46 : Ref sig .tc := ⟨.hbm, 120, rfl⟩
abbrev main_call0_v47 : Ref sig .tc := ⟨.hbm, 121, rfl⟩
abbrev main_call0_c_11 : Ref sig .tc := ⟨.hbm, 122, rfl⟩
abbrev main_call0_v48 : Ref sig .tc := ⟨.hbm, 123, rfl⟩
abbrev main_call0_v49 : Ref sig .tc := ⟨.hbm, 124, rfl⟩
abbrev main_call0_c_12 : Ref sig .tc := ⟨.hbm, 125, rfl⟩
abbrev main_call0_v50 : Ref sig .tc := ⟨.hbm, 126, rfl⟩
abbrev main_call0_v51 : Ref sig .tc := ⟨.hbm, 127, rfl⟩
abbrev main_call0_v52 : Ref sig .tc := ⟨.hbm, 128, rfl⟩
abbrev main_call0_v53 : Ref sig .tc := ⟨.hbm, 129, rfl⟩
abbrev main_call0_v54 : Ref sig .tc := ⟨.hbm, 130, rfl⟩
abbrev main_call0_c_13 : Ref sig .tc := ⟨.hbm, 131, rfl⟩
abbrev main_call0_v55 : Ref sig .tc := ⟨.hbm, 132, rfl⟩
abbrev main_call0_v56 : Ref sig .tc := ⟨.hbm, 133, rfl⟩
abbrev main_call0_c_14 : Ref sig .tc := ⟨.hbm, 134, rfl⟩
abbrev main_call0_v57 : Ref sig .tc := ⟨.hbm, 135, rfl⟩
abbrev main_call0_v58 : Ref sig .tc := ⟨.hbm, 136, rfl⟩
abbrev main_call0_v59 : Ref sig .tc := ⟨.hbm, 137, rfl⟩
abbrev main_call0_v60 : Ref sig .tc := ⟨.hbm, 138, rfl⟩
abbrev main_call0_v61 : Ref sig .tc := ⟨.hbm, 139, rfl⟩
abbrev main_call0_c_15 : Ref sig .tc := ⟨.hbm, 140, rfl⟩
abbrev main_call0_v62 : Ref sig .tc := ⟨.hbm, 141, rfl⟩
abbrev main_call0_v63 : Ref sig .tc := ⟨.hbm, 142, rfl⟩
abbrev main_call0_c_16 : Ref sig .tc := ⟨.hbm, 143, rfl⟩
abbrev main_call0_v64 : Ref sig .tc := ⟨.hbm, 144, rfl⟩
abbrev main_call0_v65 : Ref sig .tc := ⟨.hbm, 145, rfl⟩
abbrev main_call0_v66 : Ref sig .tc := ⟨.hbm, 146, rfl⟩
abbrev main_call0_v67 : Ref sig .tc := ⟨.hbm, 147, rfl⟩
abbrev main_call0_v68 : Ref sig .tc := ⟨.hbm, 148, rfl⟩
abbrev main_call0_v69 : Ref sig .tc := ⟨.hbm, 149, rfl⟩
abbrev main_call0_v70 : Ref sig .tc := ⟨.hbm, 150, rfl⟩
abbrev main_call0_v71 : Ref sig .tc := ⟨.hbm, 151, rfl⟩
abbrev main_call0_c_17 : Ref sig .tc := ⟨.hbm, 152, rfl⟩
abbrev main_call0_v72 : Ref sig .tc := ⟨.hbm, 153, rfl⟩
abbrev main_call0_v73 : Ref sig .tc := ⟨.hbm, 154, rfl⟩
abbrev main_call0_v74 : Ref sig .tc := ⟨.hbm, 155, rfl⟩
abbrev main_call0_c_18 : Ref sig .tc := ⟨.hbm, 156, rfl⟩
abbrev main_call0_v75 : Ref sig .tc := ⟨.hbm, 157, rfl⟩
abbrev main_call0_v76 : Ref sig .tc := ⟨.hbm, 158, rfl⟩
abbrev main_call0_c_19 : Ref sig .tc := ⟨.hbm, 159, rfl⟩
abbrev main_call0_v77 : Ref sig .tc := ⟨.hbm, 160, rfl⟩
abbrev main_call0_v78 : Ref sig .tc := ⟨.hbm, 161, rfl⟩
abbrev main_call0_v79 : Ref sig .tc := ⟨.hbm, 162, rfl⟩
abbrev main_call0_v80 : Ref sig .tc := ⟨.hbm, 163, rfl⟩
abbrev main_call0_v81 : Ref sig .tc := ⟨.hbm, 164, rfl⟩
abbrev main_call0_c_20 : Ref sig .tc := ⟨.hbm, 165, rfl⟩
abbrev main_call0_v82 : Ref sig .tc := ⟨.hbm, 166, rfl⟩
abbrev main_call0_v83 : Ref sig .tc := ⟨.hbm, 167, rfl⟩
abbrev main_call0_c_21 : Ref sig .tc := ⟨.hbm, 168, rfl⟩
abbrev main_call0_v84 : Ref sig .tc := ⟨.hbm, 169, rfl⟩
abbrev main_call0_v85 : Ref sig .tc := ⟨.hbm, 170, rfl⟩
abbrev main_call0_v86 : Ref sig .tc := ⟨.hbm, 171, rfl⟩
abbrev main_call0_v87 : Ref sig .tc := ⟨.hbm, 172, rfl⟩
abbrev main_call0_v88 : Ref sig .tc := ⟨.hbm, 173, rfl⟩
abbrev main_call0_c_22 : Ref sig .tc := ⟨.hbm, 174, rfl⟩
abbrev main_call0_v89 : Ref sig .tc := ⟨.hbm, 175, rfl⟩
abbrev main_call0_v90 : Ref sig .tc := ⟨.hbm, 176, rfl⟩
abbrev main_call0_c_23 : Ref sig .tc := ⟨.hbm, 177, rfl⟩
abbrev main_call0_v91 : Ref sig .tc := ⟨.hbm, 178, rfl⟩
abbrev main_call0_v92 : Ref sig .tc := ⟨.hbm, 179, rfl⟩
abbrev main_call0_v93 : Ref sig .tc := ⟨.hbm, 180, rfl⟩
abbrev main_call0_v94 : Ref sig .tc := ⟨.hbm, 181, rfl⟩
abbrev main_call0_v95 : Ref sig .tc := ⟨.hbm, 182, rfl⟩
abbrev main_call0_c_24 : Ref sig .tc := ⟨.hbm, 183, rfl⟩
abbrev main_call0_v96 : Ref sig .tc := ⟨.hbm, 184, rfl⟩
abbrev main_call0_v97 : Ref sig .tc := ⟨.hbm, 185, rfl⟩
abbrev main_call0_c_25 : Ref sig .tc := ⟨.hbm, 186, rfl⟩
abbrev main_call0_v98 : Ref sig .tc := ⟨.hbm, 187, rfl⟩
abbrev main_call0_v99 : Ref sig .tc := ⟨.hbm, 188, rfl⟩
abbrev main_call0_v100 : Ref sig .tc := ⟨.hbm, 189, rfl⟩
abbrev main_call0_v101 : Ref sig .tc := ⟨.hbm, 190, rfl⟩
abbrev main_call0_v102 : Ref sig .tc := ⟨.hbm, 191, rfl⟩
abbrev main_call0_v103 : Ref sig .tc := ⟨.hbm, 192, rfl⟩
abbrev main_call0_v104 : Ref sig .tc := ⟨.hbm, 193, rfl⟩
abbrev main_call0_v105 : Ref sig .tc := ⟨.hbm, 194, rfl⟩
abbrev main_call0_c_26 : Ref sig .tc := ⟨.hbm, 195, rfl⟩
abbrev main_call0_v106 : Ref sig .tc := ⟨.hbm, 196, rfl⟩
abbrev main_call0_v107 : Ref sig .tc := ⟨.hbm, 197, rfl⟩
abbrev main_call0_v108 : Ref sig .tc := ⟨.hbm, 198, rfl⟩
abbrev main_call0_c_27 : Ref sig .tc := ⟨.hbm, 199, rfl⟩
abbrev main_call0_v109 : Ref sig .tc := ⟨.hbm, 200, rfl⟩
abbrev main_call0_v110 : Ref sig .tc := ⟨.hbm, 201, rfl⟩
abbrev main_call0_c_28 : Ref sig .tc := ⟨.hbm, 202, rfl⟩
abbrev main_call0_v111 : Ref sig .tc := ⟨.hbm, 203, rfl⟩
abbrev main_call0_v112 : Ref sig .tc := ⟨.hbm, 204, rfl⟩
abbrev main_call0_v113 : Ref sig .tc := ⟨.hbm, 205, rfl⟩
abbrev main_call0_v114 : Ref sig .tc := ⟨.hbm, 206, rfl⟩
abbrev main_call0_v115 : Ref sig .tc := ⟨.hbm, 207, rfl⟩
abbrev main_call0_c_29 : Ref sig .tc := ⟨.hbm, 208, rfl⟩
abbrev main_call0_v116 : Ref sig .tc := ⟨.hbm, 209, rfl⟩
abbrev main_call0_v117 : Ref sig .tc := ⟨.hbm, 210, rfl⟩
abbrev main_call0_c_30 : Ref sig .tc := ⟨.hbm, 211, rfl⟩
abbrev main_call0_v118 : Ref sig .tc := ⟨.hbm, 212, rfl⟩
abbrev main_call0_v119 : Ref sig .tc := ⟨.hbm, 213, rfl⟩
abbrev main_call0_v120 : Ref sig .tc := ⟨.hbm, 214, rfl⟩
abbrev main_call0_v121 : Ref sig .tc := ⟨.hbm, 215, rfl⟩
abbrev main_call0_v122 : Ref sig .tc := ⟨.hbm, 216, rfl⟩
abbrev main_call0_c_31 : Ref sig .tc := ⟨.hbm, 217, rfl⟩
abbrev main_call0_v123 : Ref sig .tc := ⟨.hbm, 218, rfl⟩
abbrev main_call0_v124 : Ref sig .tc := ⟨.hbm, 219, rfl⟩
abbrev main_call0_c_32 : Ref sig .tc := ⟨.hbm, 220, rfl⟩
abbrev main_call0_v125 : Ref sig .tc := ⟨.hbm, 221, rfl⟩
abbrev main_call0_v126 : Ref sig .tc := ⟨.hbm, 222, rfl⟩
abbrev main_call0_v127 : Ref sig .tc := ⟨.hbm, 223, rfl⟩
abbrev main_call0_v128 : Ref sig .tc := ⟨.hbm, 224, rfl⟩
abbrev main_call0_v129 : Ref sig .tc := ⟨.hbm, 225, rfl⟩
abbrev main_call0_c_33 : Ref sig .tc := ⟨.hbm, 226, rfl⟩
abbrev main_call0_v130 : Ref sig .tc := ⟨.hbm, 227, rfl⟩
abbrev main_call0_v131 : Ref sig .tc := ⟨.hbm, 228, rfl⟩
abbrev main_call0_c_34 : Ref sig .tc := ⟨.hbm, 229, rfl⟩
abbrev main_call0_v132 : Ref sig .tc := ⟨.hbm, 230, rfl⟩
abbrev main_call0_v133 : Ref sig .tc := ⟨.hbm, 231, rfl⟩
abbrev main_call0_v134 : Ref sig .tc := ⟨.hbm, 232, rfl⟩
abbrev main_call0_v135 : Ref sig .tc := ⟨.hbm, 233, rfl⟩
abbrev main_call0_v136 : Ref sig .tc := ⟨.hbm, 234, rfl⟩
abbrev main_call0_v137 : Ref sig .tc := ⟨.hbm, 235, rfl⟩
abbrev main_call0_v138 : Ref sig .tc := ⟨.hbm, 236, rfl⟩
abbrev main_call0_v139 : Ref sig .tc := ⟨.hbm, 237, rfl⟩
abbrev main_call0_c_35 : Ref sig .tc := ⟨.hbm, 238, rfl⟩
abbrev main_call0_v140 : Ref sig .tc := ⟨.hbm, 239, rfl⟩
abbrev main_call0_v141 : Ref sig .tc := ⟨.hbm, 240, rfl⟩
abbrev main_call0_v142 : Ref sig .tc := ⟨.hbm, 241, rfl⟩
abbrev main_call0_c_36 : Ref sig .tc := ⟨.hbm, 242, rfl⟩
abbrev main_call0_v143 : Ref sig .tc := ⟨.hbm, 243, rfl⟩
abbrev main_call0_v144 : Ref sig .tc := ⟨.hbm, 244, rfl⟩
abbrev main_call0_c_37 : Ref sig .tc := ⟨.hbm, 245, rfl⟩
abbrev main_call0_v145 : Ref sig .tc := ⟨.hbm, 246, rfl⟩
abbrev main_call0_v146 : Ref sig .tc := ⟨.hbm, 247, rfl⟩
abbrev main_call0_v147 : Ref sig .tc := ⟨.hbm, 248, rfl⟩
abbrev main_call0_v148 : Ref sig .tc := ⟨.hbm, 249, rfl⟩
abbrev main_call0_v149 : Ref sig .tc := ⟨.hbm, 250, rfl⟩
abbrev main_call0_c_38 : Ref sig .tc := ⟨.hbm, 251, rfl⟩
abbrev main_call0_v150 : Ref sig .tc := ⟨.hbm, 252, rfl⟩
abbrev main_call0_v151 : Ref sig .tc := ⟨.hbm, 253, rfl⟩
abbrev main_call0_c_39 : Ref sig .tc := ⟨.hbm, 254, rfl⟩
abbrev main_call0_v152 : Ref sig .tc := ⟨.hbm, 255, rfl⟩
abbrev main_call0_v153 : Ref sig .tc := ⟨.hbm, 256, rfl⟩
abbrev main_call0_v154 : Ref sig .tc := ⟨.hbm, 257, rfl⟩
abbrev main_call0_v155 : Ref sig .tc := ⟨.hbm, 258, rfl⟩
abbrev main_call0_v156 : Ref sig .tc := ⟨.hbm, 259, rfl⟩
abbrev main_call0_c_40 : Ref sig .tc := ⟨.hbm, 260, rfl⟩
abbrev main_call0_v157 : Ref sig .tc := ⟨.hbm, 261, rfl⟩
abbrev main_call0_v158 : Ref sig .tc := ⟨.hbm, 262, rfl⟩
abbrev main_call0_c_41 : Ref sig .tc := ⟨.hbm, 263, rfl⟩
abbrev main_call0_v159 : Ref sig .tc := ⟨.hbm, 264, rfl⟩
abbrev main_call0_v160 : Ref sig .tc := ⟨.hbm, 265, rfl⟩
abbrev main_call0_v161 : Ref sig .tc := ⟨.hbm, 266, rfl⟩
abbrev main_call0_v162 : Ref sig .tc := ⟨.hbm, 267, rfl⟩
abbrev main_call0_v163 : Ref sig .tc := ⟨.hbm, 268, rfl⟩
abbrev main_call0_c_42 : Ref sig .tc := ⟨.hbm, 269, rfl⟩
abbrev main_call0_v164 : Ref sig .tc := ⟨.hbm, 270, rfl⟩
abbrev main_call0_v165 : Ref sig .tc := ⟨.hbm, 271, rfl⟩
abbrev main_call0_c_43 : Ref sig .tc := ⟨.hbm, 272, rfl⟩
abbrev main_call0_v166 : Ref sig .tc := ⟨.hbm, 273, rfl⟩
abbrev main_call0_v167 : Ref sig .tc := ⟨.hbm, 274, rfl⟩
abbrev main_call0_v168 : Ref sig .tc := ⟨.hbm, 275, rfl⟩
abbrev main_call0_v169 : Ref sig .tc := ⟨.hbm, 276, rfl⟩
abbrev main_call0_v170 : Ref sig .tc := ⟨.hbm, 277, rfl⟩
abbrev main_v47_0 : Ref sig .tc := ⟨.hbm, 278, rfl⟩
abbrev main_call0_v172 : Ref sig .tc := ⟨.hbm, 279, rfl⟩
abbrev main_call0_v173 : Ref sig .tc := ⟨.hbm, 280, rfl⟩
abbrev main_call0_c_44 : Ref sig .tc := ⟨.hbm, 281, rfl⟩
abbrev main_call0_v174 : Ref sig .tc := ⟨.hbm, 282, rfl⟩
abbrev main_v47_1 : Ref sig .tc := ⟨.hbm, 283, rfl⟩
abbrev main_v48 : Ref sig .tc := ⟨.hbm, 284, rfl⟩
abbrev main_c_12 : Ref sig .tc := ⟨.hbm, 285, rfl⟩
abbrev main_v49 : Ref sig .tc := ⟨.hbm, 286, rfl⟩
abbrev main_v50 : Ref sig .tc := ⟨.hbm, 287, rfl⟩
abbrev main_c_13 : Ref sig .tc := ⟨.hbm, 288, rfl⟩
abbrev main_v51 : Ref sig .tc := ⟨.hbm, 289, rfl⟩
abbrev main_v52 : Ref sig .tc := ⟨.hbm, 290, rfl⟩
abbrev main_v53 : Ref sig .tc := ⟨.hbm, 291, rfl⟩
abbrev main_cst_14 : Ref sig .tc := ⟨.hbm, 292, rfl⟩
abbrev main_v54 : Ref sig .tc := ⟨.hbm, 293, rfl⟩
abbrev main_v55 : Ref sig .tc := ⟨.hbm, 294, rfl⟩
abbrev main_cst_15 : Ref sig .tc := ⟨.hbm, 295, rfl⟩
abbrev main_v56 : Ref sig .tc := ⟨.hbm, 296, rfl⟩
abbrev main_v57 : Ref sig .tc := ⟨.hbm, 297, rfl⟩
abbrev main_cst_16 : Ref sig .tc := ⟨.hbm, 298, rfl⟩
abbrev main_v58 : Ref sig .tc := ⟨.hbm, 299, rfl⟩
abbrev main_v59 : Ref sig .tc := ⟨.hbm, 300, rfl⟩
abbrev main_cst_17 : Ref sig .tc := ⟨.hbm, 301, rfl⟩
abbrev main_v60 : Ref sig .tc := ⟨.hbm, 302, rfl⟩
abbrev main_v61 : Ref sig .tc := ⟨.hbm, 303, rfl⟩
abbrev main_v62 : Ref sig .tc := ⟨.hbm, 304, rfl⟩
abbrev main_v63 : Ref sig .tc := ⟨.hbm, 305, rfl⟩
abbrev main_v64 : Ref sig .tc := ⟨.hbm, 306, rfl⟩
abbrev main_v65 : Ref sig .tc := ⟨.hbm, 307, rfl⟩
abbrev main_v66 : Ref sig .tc := ⟨.hbm, 308, rfl⟩
abbrev main_call1_v0 : Ref sig .tc := ⟨.hbm, 309, rfl⟩
abbrev main_call1_cst : Ref sig .tc := ⟨.hbm, 310, rfl⟩
abbrev main_call1_c : Ref sig .tc := ⟨.hbm, 311, rfl⟩
abbrev main_call1_v1_0 : Ref sig .tc := ⟨.hbm, 312, rfl⟩
abbrev main_v67 : Ref sig .tc := ⟨.hbm, 313, rfl⟩
abbrev main_call2_v0 : Ref sig .tc := ⟨.hbm, 314, rfl⟩
abbrev main_call2_v1 : Ref sig .tc := ⟨.hbm, 315, rfl⟩
abbrev main_call2_v2 : Ref sig .tc := ⟨.hbm, 316, rfl⟩
abbrev main_call2_v3 : Ref sig .tc := ⟨.hbm, 317, rfl⟩
abbrev main_call2_v4 : Ref sig .tc := ⟨.hbm, 318, rfl⟩
abbrev main_v68 : Ref sig .tc := ⟨.hbm, 319, rfl⟩
abbrev main_v69 : Ref sig .tc := ⟨.hbm, 320, rfl⟩
abbrev main_v70 : Ref sig .tc := ⟨.hbm, 321, rfl⟩
abbrev main_v71 : Ref sig .tc := ⟨.hbm, 322, rfl⟩

abbrev nD : Nat := 1
abbrev τ : Topo := Topo.v7x

variable {F : FTy → Type} [FloatOps F]
-- ==== Proof.SingleAssignment.lean ====
/- Straight lines of host operations in single-assignment form.

   The reference is a line of operations over numbered buffers in which every operation writes one buffer, and reads
   only buffers with a smaller number. What such a line leaves behind solves every operation's own equation: the
   written buffer holds the operation's value at the FINAL contents of its operands. `Line` packs this with what a run
   needs, composes along a printed program, and collects the equations; `run_line` is the run. -/
module

public import Idealize.ShloMosaic.Lib.StableHlo.Run
public import Idealize.ShloMosaic.Lib.StableHlo

@[expose] public section

namespace Cert.SingleAssignment

open Idealize.ShloMosaic Idealize.ShloMosaic.StableHlo Idealize.SL.Sem

variable {nD : Nat} {τ : Topo} {sig : RefSig} {Val : EltTy → Type} {Λ : Labels}

/-- A buffer's number. -/
def rank (b : DevRef τ sig) : ℕ := b.idx.1

/-- One operation that writes buffers numbered from `lo` up to (not including) `hi`, whose values depend only on
    buffers numbered below `lo`; `e` is the equation that it imposes on contents which it leaves unchanged. -/
structure Step (lo hi : ℕ) (op : HloOp τ sig Val) (e : Valuation τ sig Val → Prop) : Prop where
  sub : op.bufs ⊆ tcRefs τ sig
  fresh : op.fresh = ∅
  range : ∀ b ∈ op.writes, lo ≤ rank b ∧ rank b < hi
  reads : ∀ F G : Valuation τ sig Val, (∀ b, rank b < lo → F b = G b) → ∀ b ∈ op.writes, op.result F b = op.result G b
  eqn : ∀ W : Valuation τ sig Val, (∀ b ∈ op.writes, op.result W b = W b) → e W

/-- A list of operations whose written buffers ascend from `lo` to `hi`. -/
def Ascends : ℕ → List (HloOp τ sig Val) → ℕ → Prop
  | lo, [], hi => lo ≤ hi
  | lo, op :: ops, hi => ∃ l h, lo ≤ l ∧ l ≤ h ∧ Step l h op (fun _ => True) ∧ Ascends h ops hi

/-- `W` solves the operations: each writes what is there already. -/
def Solves (ops : List (HloOp τ sig Val)) (W : Valuation τ sig Val) : Prop :=
  ∀ op ∈ ops, ∀ b ∈ op.writes, op.result W b = W b

/-- An ascending list's bounds are in order. -/
theorem Ascends.le {ops : List (HloOp τ sig Val)} : ∀ {lo hi : ℕ}, Ascends lo ops hi → lo ≤ hi := by
  induction ops with
  | nil => exact fun h => h
  | cons op ops ih =>
    rintro lo hi ⟨l, h, h₁, h₂, -, h₃⟩
    exact h₁.trans (h₂.trans (ih h₃))

/-- Ascending lists that meet append to an ascending list. -/
theorem Ascends.append {o₁ o₂ : List (HloOp τ sig Val)} :
    ∀ {lo mid hi : ℕ}, Ascends lo o₁ mid → Ascends mid o₂ hi → Ascends lo (o₁ ++ o₂) hi := by
  induction o₁ with
  | nil =>
    intro lo mid hi h₁ h₂
    cases o₂ with
    | nil => exact le_trans h₁ h₂
    | cons op ops =>
      obtain ⟨l, h, g₁, g⟩ := h₂
      exact ⟨l, h, le_trans h₁ g₁, g⟩
  | cons op ops ih =>
    rintro lo mid hi ⟨l, h, g₁, g₂, g₃, g₄⟩ h₂
    exact ⟨l, h, g₁, g₂, g₃, ih g₄ h₂⟩

/-- Buffers numbered below the line keep their contents. -/
theorem Ascends.below {ops : List (HloOp τ sig Val)} :
    ∀ {lo hi : ℕ} (V : Valuation τ sig Val), Ascends lo ops hi → ∀ b, rank b < lo → after ops V b = V b := by
  induction ops with
  | nil => intros; rfl
  | cons op ops ih =>
    rintro lo hi V ⟨l, h, g₁, g₂, g₃, g₄⟩ b hb
    rw [after_cons, ih _ g₄ b (by omega), op.result_of_not_mem]
    intro hw
    have := (g₃.range b hw).1
    omega

/-- What the line leaves solves each of its operations. -/
theorem Ascends.solves {ops : List (HloOp τ sig Val)} :
    ∀ {lo hi : ℕ} (V : Valuation τ sig Val), Ascends lo ops hi → Solves ops (after ops V) := by
  induction ops with
  | nil => intro lo hi V _ op h; exact absurd h (by simp)
  | cons op ops ih =>
    rintro lo hi V ⟨l, h, g₁, g₂, g₃, g₄⟩ op' hop b hb
    rcases List.mem_cons.mp hop with rfl | hop
    · rw [after_cons, g₄.below _ b (g₃.range b hb).2]
      refine g₃.reads _ _ (fun b' hb' => ?_) b hb
      rw [g₄.below _ b' (by omega), op'.result_of_not_mem]
      intro hw
      have := (g₃.range b' hw).1
      omega
    · exact ih (op.result V) g₄ op' hop b hb

/-- The program `p` is a line of operations that ascends from `lo` to `hi`, and whatever solves them has `E`. -/
def Line (lo : ℕ) (p : Prog (TpuEff nD τ sig Val Λ .tc) PUnit) (hi : ℕ) (E : Valuation τ sig Val → Prop) : Prop :=
  ∃ ops : List (HloOp τ sig Val), p = seq ops ∧ (ops.Forall fun op => op.bufs ⊆ tcRefs τ sig) ∧ (∀ op ∈ ops, op.fresh = ∅)
    ∧ Ascends lo ops hi ∧ ∀ W, Solves ops W → E W

/-- The empty program is a line of no operation. -/
theorem Line.nil {lo : ℕ} : Line (nD := nD) (τ := τ) (sig := sig) (Val := Val) (Λ := Λ) lo (pure ⟨⟩) lo fun _ => True :=
  ⟨[], rfl, trivial, fun _ h => absurd h (by simp), le_refl lo, fun _ _ => trivial⟩

/-- A line's equations may be weakened. -/
theorem Line.mono {lo hi : ℕ} {p : Prog (TpuEff nD τ sig Val Λ .tc) PUnit} {E E' : Valuation τ sig Val → Prop}
    (h : Line lo p hi E) (hE : ∀ W, E W → E' W) : Line lo p hi E' := by
  obtain ⟨ops, h₁, h₂, h₃, h₄, h₅⟩ := h
  exact ⟨ops, h₁, h₂, h₃, h₄, fun W hW => hE W (h₅ W hW)⟩

/-- One line after another. -/
theorem Line.bind {lo mid hi : ℕ} {p k : Prog (TpuEff nD τ sig Val Λ .tc) PUnit} {E E' : Valuation τ sig Val → Prop}
    (h : Line lo p mid E) (hk : Line mid k hi E') : Line lo (p >>= fun _ => k) hi fun W => E W ∧ E' W := by
  obtain ⟨ops, rfl, h₂, h₃, h₄, h₅⟩ := h
  obtain ⟨ops', rfl, k₂, k₃, k₄, k₅⟩ := hk
  refine ⟨ops ++ ops', (seq_append ops ops').symm, List.forall_append.mpr ⟨h₂, k₂⟩, fun op h => ?_, h₄.append k₄,
    fun W hW => ⟨h₅ W fun op h => hW op (List.mem_append_left _ h), k₅ W fun op h => hW op (List.mem_append_right _ h)⟩⟩
  rcases List.mem_append.mp h with h | h
  exacts [h₃ op h, k₃ op h]

/-- One operation is a line. -/
theorem Line.one {lo l h : ℕ} {op : HloOp τ sig Val} {e : Valuation τ sig Val → Prop}
    (hs : Step l h op e) (hl : lo ≤ l) (hlh : l ≤ h) :
    Line (nD := nD) (Λ := Λ) lo (hlo rfl op fun _ => .ret ⟨⟩) h e :=
  ⟨[op], rfl, hs.sub, fun op' h => by rw [List.mem_singleton.mp h]; exact hs.fresh,
    ⟨l, h, hl, hlh, ⟨hs.sub, hs.fresh, hs.range, hs.reads, fun _ _ => trivial⟩, le_refl h⟩,
    fun W hW => hs.eqn W (hW op (List.mem_singleton.mpr rfl))⟩

/-- One operation, then the rest of the line. -/
theorem Line.cons {lo l h hi : ℕ} {op : HloOp τ sig Val} {e E : Valuation τ sig Val → Prop}
    {k : Prog (TpuEff nD τ sig Val Λ .tc) PUnit} (hs : Step l h op e) (hl : lo ≤ l) (hlh : l ≤ h) (hk : Line h k hi E) :
    Line lo ((hlo rfl op fun _ => .ret (⟨⟩ : PUnit)) >>= fun _ => k) hi fun W => e W ∧ E W :=
  (Line.one hs hl hlh).bind hk

section Builders

variable {x a b c d y : Ref sig .tc}

/-- An operation that writes a function of lower buffers to its result is a step. -/
theorem step_of {op : HloOp τ sig Val} (y : Ref sig .tc) (v : Valuation τ sig Val → y.ty.Contents Val)
    (hw : op.writes = {Proc.devRef .tc y}) (hr : ∀ F, op.result F (Proc.devRef .tc y) = v F)
    (hsub : op.bufs ⊆ tcRefs τ sig) (hf : op.fresh = ∅)
    (hv : ∀ F G : Valuation τ sig Val, (∀ b, rank b < rank (τ := τ) (Proc.devRef .tc y) → F b = G b) → v F = v G) :
    Step (rank (τ := τ) (Proc.devRef .tc y)) (rank (τ := τ) (Proc.devRef .tc y) + 1) op fun W => W (Proc.devRef .tc y) = v W where
  sub := hsub
  fresh := hf
  range b hb := by
    rw [hw, Finset.mem_singleton] at hb
    subst hb
    exact ⟨le_refl _, Nat.lt_succ_self _⟩
  reads F G h b hb := by
    rw [hw, Finset.mem_singleton] at hb
    subst hb
    rw [hr, hr]
    exact hv F G h
  eqn W h := by
    rw [← h (Proc.devRef .tc y) (by rw [hw]; exact Finset.mem_singleton_self _)]
    exact hr W

/-- A constant is a step. -/
theorem Step.nullary {v : y.ty.Contents Val} {hy} :
    Step (rank (τ := τ) (Proc.devRef .tc y)) (rank (τ := τ) (Proc.devRef .tc y) + 1)
      (StableHlo.nullary (τ := τ) y v hy) fun W => W (Proc.devRef .tc y) = v :=
  step_of y (fun _ => v) rfl (fun F => nullary_result y v hy F) (nullary_bufs_sub ..) rfl fun _ _ _ => rfl

/-- An operation on one lower buffer is a step. -/
theorem Step.unary {f : x.ty.Contents Val → y.ty.Contents Val} {hx hy}
    (h : rank (τ := τ) (Proc.devRef .tc x) < rank (τ := τ) (Proc.devRef .tc y)) :
    Step (rank (τ := τ) (Proc.devRef .tc y)) (rank (τ := τ) (Proc.devRef .tc y) + 1)
      (StableHlo.unary (τ := τ) x y f hx hy) fun W => W (Proc.devRef .tc y) = f (W (Proc.devRef .tc x)) :=
  step_of y (fun W => f (W (Proc.devRef .tc x))) rfl (fun F => unary_result x y f hx hy F) (unary_bufs_sub ..) rfl
    fun _ _ hFG => by rw [hFG _ h]

/-- A reshape of a lower buffer is a step. -/
theorem Step.reshape {he hn hx hy} (h : rank (τ := τ) (Proc.devRef .tc x) < rank (τ := τ) (Proc.devRef .tc y)) :
    Step (rank (τ := τ) (Proc.devRef .tc y)) (rank (τ := τ) (Proc.devRef .tc y) + 1)
      (StableHlo.reshape (τ := τ) (Val := Val) x y he hn hx hy) fun W =>
        W (Proc.devRef .tc y) = fun i => he ▸ shapeCast y.ty.shape (W (Proc.devRef .tc x)) hn i :=
  step_of y (fun W => fun i => he ▸ shapeCast y.ty.shape (W (Proc.devRef .tc x)) hn i) rfl
    (fun F => reshape_result x y he hn hx hy F) (reshape_bufs_sub ..) rfl
    fun _ _ hFG => by rw [hFG _ h]

/-- An operation on two lower buffers is a step. -/
theorem Step.binary {f : a.ty.Contents Val → b.ty.Contents Val → y.ty.Contents Val} {ha hb hy}
    (h : rank (τ := τ) (Proc.devRef .tc a) < rank (τ := τ) (Proc.devRef .tc y)
      ∧ rank (τ := τ) (Proc.devRef .tc b) < rank (τ := τ) (Proc.devRef .tc y)) :
    Step (rank (τ := τ) (Proc.devRef .tc y)) (rank (τ := τ) (Proc.devRef .tc y) + 1)
      (StableHlo.binary (τ := τ) a b y f ha hb hy) fun W =>
        W (Proc.devRef .tc y) = f (W (Proc.devRef .tc a)) (W (Proc.devRef .tc b)) :=
  step_of y (fun W => f (W (Proc.devRef .tc a)) (W (Proc.devRef .tc b))) rfl (fun F => binary_result a b y f ha hb hy F)
    (binary_bufs_sub ..) rfl fun _ _ hFG => by rw [hFG _ h.1, hFG _ h.2]

/-- An operation on four lower buffers is a step. -/
theorem Step.quaternary
    {f : a.ty.Contents Val → b.ty.Contents Val → c.ty.Contents Val → d.ty.Contents Val → y.ty.Contents Val} {ha hb hc hd hy}
    (h : rank (τ := τ) (Proc.devRef .tc a) < rank (τ := τ) (Proc.devRef .tc y)
      ∧ rank (τ := τ) (Proc.devRef .tc b) < rank (τ := τ) (Proc.devRef .tc y)
      ∧ rank (τ := τ) (Proc.devRef .tc c) < rank (τ := τ) (Proc.devRef .tc y)
      ∧ rank (τ := τ) (Proc.devRef .tc d) < rank (τ := τ) (Proc.devRef .tc y)) :
    Step (rank (τ := τ) (Proc.devRef .tc y)) (rank (τ := τ) (Proc.devRef .tc y) + 1)
      (StableHlo.quaternary (τ := τ) a b c d y f ha hb hc hd hy) fun W =>
        W (Proc.devRef .tc y)
          = f (W (Proc.devRef .tc a)) (W (Proc.devRef .tc b)) (W (Proc.devRef .tc c)) (W (Proc.devRef .tc d)) :=
  step_of y (fun W => f (W (Proc.devRef .tc a)) (W (Proc.devRef .tc b)) (W (Proc.devRef .tc c)) (W (Proc.devRef .tc d))) rfl
    (fun F => quaternary_result a b c d y f ha hb hc hd hy F)
    (quaternary_bufs_sub ..) rfl
    fun _ _ hFG => by rw [hFG _ h.1, hFG _ h.2.1, hFG _ h.2.2.1, hFG _ h.2.2.2]

end Builders

/-- The run of a single-assignment line: every weakly fair execution ends, on each device, with contents that keep
    every buffer numbered below the line and have the line's `E`. -/
theorem run_line (hR : (Finset.univ.filter fun b : Ref sig .tc => b.isScoped) = ∅)
    (hC : (Finset.univ.filter fun sm : SemLoc sig => sm.isScoped .tc) = ∅)
    (defs : Defs nD τ sig Val Λ) (main : Dev nD → Prog (TpuEff nD τ sig Val Λ .tc) PUnit) {lo hi : ℕ}
    {E : Valuation τ sig Val → Prop} (h : ∀ d, Line lo (main d) hi E)
    (m : (ℓ : Loc nD τ sig) → Buf Val ℓ) (ρ : Dev nD → PrngReg) :
    θ_run defs (onTc (τ := τ) main) ⟨m, fun _ => 0, ρ⟩ fun r =>
      ∀ d : Dev nD, ∃ W : Valuation τ sig Val, E W ∧ (∀ b, rank b < lo → W b = launchContents m d b) ∧
        ∀ b : Ref sig .tc, r.2.mem ((d.tc : Thread nD τ).loc b) = W (Proc.devRef .tc b) := by
  choose ops h₁ h₂ h₃ h₄ h₅ using h
  refine (θ_run defs (onTc (τ := τ) main) _).mono (fun r hr d => ?_) (run_seq hR hC defs main ops h₁ h₂ m ρ h₃)
  exact ⟨after (ops d) (launchContents m d), h₅ d _ ((h₄ d).solves _), (h₄ d).below _, hr d⟩

end Cert.SingleAssignment
-- ==== Proof.Sampling.lean ====
/- What the kernel samples, said once for one group of 32 classes.

   A counter's random word is the xor of the two words of threefry-2x32 at the key (0, 42). A group's logits give
   smoothed probabilities, a probability's logarithm plus the counter's Gumbel noise is a score, and the class drawn is
   the first one whose score is greatest. The kernel's own text and the reference are each proved to compute `drawn`. -/
module

public import Idealize.ShloMosaic.PureOps.Ideal

@[expose] public section

namespace Cert.Sampling

open Idealize.ShloMosaic

/-! ## The random words -/

/-- One threefry round on a pair of words, rotating by `r` to the left where `s` is `32 - r`. -/
def round (r s : BitVec 32) (p : BitVec 32 × BitVec 32) : BitVec 32 × BitVec 32 :=
  (p.1 + p.2, (p.1 + p.2) ^^^ (p.2 <<< r ||| p.2 >>> s))

/-- Four rounds with the first set of rotations. -/
def roundsA (p : BitVec 32 × BitVec 32) : BitVec 32 × BitVec 32 :=
  round 6#32 26#32 (round 26#32 6#32 (round 15#32 17#32 (round 13#32 19#32 p)))

/-- Four rounds with the second set of rotations. -/
def roundsB (p : BitVec 32 × BitVec 32) : BitVec 32 × BitVec 32 :=
  round 24#32 8#32 (round 16#32 16#32 (round 29#32 3#32 (round 17#32 15#32 p)))

/-- A key injection: two key words are added, and the injection's number to the second. -/
def inject (a b c : BitVec 32) (p : BitVec 32 × BitVec 32) : BitVec 32 × BitVec 32 := (p.1 + a, p.2 + b + c)

/-- The third word of the key schedule. -/
def third (k₀ k₁ : BitVec 32) : BitVec 32 := k₀ ^^^ k₁ ^^^ 466688986#32

/-- Threefry-2x32 with twenty rounds. -/
def threefry (k₀ k₁ : BitVec 32) (x : BitVec 32 × BitVec 32) : BitVec 32 × BitVec 32 :=
  inject (third k₀ k₁) k₀ 5#32 (roundsA (inject k₁ (third k₀ k₁) 4#32 (roundsB (inject k₀ k₁ 3#32 (roundsA
    (inject (third k₀ k₁) k₀ 2#32 (roundsB (inject k₁ (third k₀ k₁) 1#32 (roundsA (x.1 + k₀, x.2 + k₁))))))))))

/-- A counter's random word. -/
def word (n : BitVec 32) : BitVec 32 :=
  (threefry 0#32 42#32 (0#32, n)).1 ^^^ (threefry 0#32 42#32 (0#32, n)).2

/-! ## The scores -/

/-- The Gumbel noise of a random word: its upper 23 bits are the fraction of a number in [1, 2). -/
noncomputable def gumbel (w : BitVec 32) : EReal :=
  -Ideal.log (-Ideal.log (max (Ideal.ofBits .f32 0x00800000#32)
    (Ideal.ofBits .f32 (w >>> 9#32 ||| 1065353216#32) - Ideal.ofBits .f32 0x3F800000#32 + Ideal.ofBits .f32 0x00800000#32)))

/-- The greatest of a group. -/
noncomputable def top (x : Fin 32 → EReal) : EReal := Finset.univ.sup x

/-- A class's weight in its group. -/
noncomputable def weight (x : Fin 32 → EReal) (l : Fin 32) : EReal := Ideal.exp (x l - top x)

/-- A class's probability, smoothed by a hundredth of the uniform distribution. -/
noncomputable def prob (x : Fin 32 → EReal) (l : Fin 32) : EReal :=
  Ideal.div (Ideal.ofBits .f32 0x3C23D70A#32) (Ideal.ofBits .f32 0x42000000#32)
    + Ideal.ofBits .f32 0x3F7D70A4#32 * Ideal.div (weight x l) (∑ k, weight x k)

/-- A class's score at the group's noises. -/
noncomputable def score (x : Fin 32 → EReal) (g : Fin 32 → EReal) (l : Fin 32) : EReal :=
  Ideal.log (prob x l) + g l

/-- `l` is the first class whose score is greatest. -/
def Wins (v : Fin 32 → EReal) (l : Fin 32) : Prop := (∀ k, v k ≤ v l) ∧ ∀ k < l, v k < v l

/-- The one-hot row of the class drawn. -/
noncomputable def drawn (v : Fin 32 → EReal) (l : Fin 32) : EReal := by
  classical exact if Wins v l then 1 else 0

/-- A group has exactly one winner. -/
theorem exists_wins (v : Fin 32 → EReal) : ∃ l, Wins v l := by
  classical
  have hne : (Finset.univ.filter fun l => ∀ k, v k ≤ v l).Nonempty := by
    obtain ⟨l, -, h⟩ := Finset.exists_max_image Finset.univ v ⟨0, Finset.mem_univ _⟩
    exact ⟨l, by simpa using fun k => h k (Finset.mem_univ _)⟩
  refine ⟨_, (Finset.mem_filter.mp (Finset.min'_mem _ hne)).2, fun k hk => ?_⟩
  have hmax := (Finset.mem_filter.mp (Finset.min'_mem _ hne)).2
  refine lt_of_le_of_ne (hmax k) fun h => absurd hk (not_lt.mpr (Finset.min'_le _ _ ?_))
  simpa [h] using hmax

/-- Two winners of one group are the same class. -/
theorem Wins.unique {v : Fin 32 → EReal} {l l' : Fin 32} (h : Wins v l) (h' : Wins v l') : l = l' := by
  rcases lt_trichotomy l l' with hl | hl | hl
  · exact absurd (h'.2 l hl) (not_lt.mpr (h.1 l'))
  · exact hl
  · exact absurd (h.2 l' hl) (not_lt.mpr (h'.1 l))

end Cert.Sampling
-- ==== Proof.RefWords.lean ====
/- The reference's random words: the call of threefry-2x32, read from the equations that its line of operations imposes. -/
module

public import proofs.«01_k».proof.Proof.Gen.ReferenceIdeal
public import proofs.«01_k».proof.Proof.SingleAssignment
public import proofs.«01_k».proof.Proof.Sampling

@[expose] public section

namespace Cert.ReferenceIdeal.Hand

open Idealize.ShloMosaic Idealize.ShloMosaic.StableHlo Idealize.SL.Sem Cert.SingleAssignment Cert.Sampling

/-- A buffer's contents under a valuation, at the buffer's own type. -/
abbrev rd (W : Valuation τ sig (Elt Ideal)) (b : Ref sig .tc) : b.ty.Contents (Elt Ideal) := W (Proc.devRef .tc b)

section Shaped

variable {s u : Shape} {x y a b₁ l b₂ r o z : IVec s 32} {c₁ c₂ : IVec u 32} {n₁ n₂ : BitVec 32}
  {d₁ d₂ : Fin u.rank → Fin s.rank} {h₁ : u.BroadcastsInDim s d₁} {h₂ : u.BroadcastsInDim s d₂}

/-- Shifting by a constant less than the width is the shift of words. -/
theorem shl_of (hc : c₁ = constantI u 32 n₁) (hb : b₁ = broadcastInDim s d₁ h₁ c₁) (hl : l = Host.shli x b₁)
    (hn : n₁.toNat < 32) (i : s.Idx) : l i = x i <<< n₁ := by
  subst hc hb hl
  exact if_pos hn

/-- A shift to the right by a constant below the width, at an index. -/
theorem shr_of (hc : c₁ = constantI u 32 n₁) (hb : b₁ = broadcastInDim s d₁ h₁ c₁) (hl : l = Host.shrui x b₁)
    (hn : n₁.toNat < 32) (i : s.Idx) : l i = x i >>> n₁ := by
  subst hc hb hl
  exact if_pos hn

/-- Nine operations of the line are one round at every index. -/
theorem round_of {q : s.Idx → BitVec 32 × BitVec 32} {R : Prop} (hq : ∀ i, (x i, y i) = q i)
    (hn₁ : n₁.toNat < 32) (hn₂ : n₂.toNat < 32)
    (h : a = addi x y ∧ c₁ = constantI u 32 n₁ ∧ b₁ = broadcastInDim s d₁ h₁ c₁ ∧ l = Host.shli y b₁
      ∧ c₂ = constantI u 32 n₂ ∧ b₂ = broadcastInDim s d₂ h₂ c₂ ∧ r = Host.shrui y b₂ ∧ o = ori l r ∧ z = xori a o ∧ R) :
    (∀ i, (a i, z i) = round n₁ n₂ (q i)) ∧ R := by
  obtain ⟨ha, e₁, e₂, e₃, e₄, e₅, e₆, e₇, e₈, hR⟩ := h
  refine ⟨fun i => ?_, hR⟩
  rw [← hq i]
  subst ha e₇ e₈
  show (x i + y i, (x i + y i) ^^^ (l i ||| r i)) = _
  rw [shl_of e₁ e₂ e₃ hn₁, shr_of e₄ e₅ e₆ hn₂]
  rfl

/-- Seven operations of the line are one key injection at every index. -/
theorem inject_of {q : s.Idx → BitVec 32 × BitVec 32} {R : Prop} {k₁ k₂ : BitVec 32}
    (hq : ∀ i, (x i, y i) = q i) (hk₁ : ∀ j, c₁ j = k₁) (hk₂ : ∀ j, c₂ j = k₂) {c₃ : IVec u 32} {n : BitVec 32} {d₃ h₃}
    (h : b₁ = broadcastInDim s d₁ h₁ c₁ ∧ a = addi x b₁ ∧ b₂ = broadcastInDim s d₂ h₂ c₂ ∧ r = addi y b₂
      ∧ c₃ = constantI u 32 n ∧ l = broadcastInDim s d₃ h₃ c₃ ∧ z = addi r l ∧ R) :
    (∀ i, (a i, z i) = inject k₁ k₂ n (q i)) ∧ R := by
  obtain ⟨rfl, rfl, rfl, rfl, rfl, rfl, rfl, hR⟩ := h
  refine ⟨fun i => ?_, hR⟩
  rw [← hq i]
  show (x i + c₁ _, y i + c₂ _ + n) = _
  rw [hk₁, hk₂]
  rfl

end Shaped

set_option maxRecDepth 8192 in
set_option maxHeartbeats 4000000 in
/-- The call's two results are threefry-2x32 of the counter's words, under the key's words. -/
theorem words_line : Line (Val := Elt Ideal) 62
    (fn_threefry2x32.body (.of main_v29) (.of main_v31) (.of main_v46) (.of main_v45) main_call0) 284 fun W =>
      ∀ k₀ k₁ : BitVec 32, (∀ j : S_.Idx, rd W main_v29 j = k₀) → (∀ j : S_.Idx, rd W main_v31 j = k₁) →
        ∀ i : S16384x32x32.Idx, ((rd W main_v47_0 i, rd W main_v47_1 i) : BitVec 32 × BitVec 32)
          = threefry k₀ k₁ (rd W main_v46 i, rd W main_v45 i) := by
  apply Line.mono
  case h =>
    unfold fn_threefry2x32.body fn_threefry2x32.body_part0 fn_threefry2x32.body_part1 fn_threefry2x32.body_part2
      fn_threefry2x32.body_part3
    repeat' (first
      | exact Line.nil
      | apply Line.cons (Step.binary (by decide)) (by decide) (by decide)
      | apply Line.cons (Step.unary (by decide)) (by decide) (by decide)
      | apply Line.cons Step.nullary (by decide) (by decide)
      | apply Line.one (Step.binary (by decide)) (by decide) (by decide)
      | apply Line.bind)
  case hE =>
    intro W h k₀ k₁ hk₀ hk₁
    dsimp only [TRef.toBuf, TRef.ofBuf, cast_eq] at h
    obtain ⟨e₀, e₁, e₂, e₃, e₄, e₅, e₆, h⟩ := h
    have hk₂ : ∀ j : S_.Idx, (rd W main_call0_v1 j : BitVec 32) = third k₀ k₁ := fun j => by
      rw [← hk₀ j, ← hk₁ j]
      unfold rd
      rw [e₂, e₀, e₁]
      rfl
    have s0 : ∀ i : S16384x32x32.Idx, ((rd W main_call0_v3 i, rd W main_call0_v5 i) : BitVec 32 × BitVec 32)
        = (IntOp.addi (rd W main_v46 i) k₀, IntOp.addi (rd W main_v45 i) k₁) := fun i => by
      unfold rd
      rw [e₄, e₆, e₃, e₅]
      exact Prod.ext (congrArg (IntOp.addi (rd W main_v46 i)) (hk₀ _)) (congrArg (IntOp.addi (rd W main_v45 i)) (hk₁ _))
    obtain ⟨s1, h⟩ := round_of s0 (by decide) (by decide) h
    obtain ⟨s2, h⟩ := round_of s1 (by decide) (by decide) h
    obtain ⟨s3, h⟩ := round_of s2 (by decide) (by decide) h
    obtain ⟨s4, h⟩ := round_of s3 (by decide) (by decide) h
    obtain ⟨s5, h⟩ := inject_of s4 hk₁ hk₂ h
    obtain ⟨s6, h⟩ := round_of s5 (by decide) (by decide) h
    obtain ⟨s7, h⟩ := round_of s6 (by decide) (by decide) h
    obtain ⟨s8, h⟩ := round_of s7 (by decide) (by decide) h
    obtain ⟨s9, h⟩ := round_of s8 (by decide) (by decide) h
    obtain ⟨s10, h⟩ := inject_of s9 hk₂ hk₀ h
    obtain ⟨s11, h⟩ := round_of s10 (by decide) (by decide) h
    obtain ⟨s12, h⟩ := round_of s11 (by decide) (by decide) h
    obtain ⟨s13, h⟩ := round_of s12 (by decide) (by decide) h
    obtain ⟨s14, h⟩ := round_of s13 (by decide) (by decide) h
    obtain ⟨s15, h⟩ := inject_of s14 hk₀ hk₁ h
    obtain ⟨s16, h⟩ := round_of s15 (by decide) (by decide) h
    obtain ⟨s17, h⟩ := round_of s16 (by decide) (by decide) h
    obtain ⟨s18, h⟩ := round_of s17 (by decide) (by decide) h
    obtain ⟨s19, h⟩ := round_of s18 (by decide) (by decide) h
    obtain ⟨s20, h⟩ := inject_of s19 hk₁ hk₂ h
    obtain ⟨s21, h⟩ := round_of s20 (by decide) (by decide) h
    obtain ⟨s22, h⟩ := round_of s21 (by decide) (by decide) h
    obtain ⟨s23, h⟩ := round_of s22 (by decide) (by decide) h
    obtain ⟨s24, h⟩ := round_of s23 (by decide) (by decide) h
    exact (inject_of s24 hk₂ hk₀ h).1

end Cert.ReferenceIdeal.Hand
-- ==== Proof.RefTensors.lean ====
/- The reference's tensors, read at an index. -/
module

public import proofs.«01_k».proof.Proof.RefWords
public import Idealize.ShloMosaic.Lib.Pointwise
public import Idealize.ShloMosaic.Lib.IdealHost

@[expose] public section

namespace Cert.ReferenceIdeal.Hand

open Idealize.ShloMosaic Idealize.ShloMosaic.StableHlo Cert.Sampling Cert.ReferenceIdeal.Gen

/-- The group of logits at row `r` and group `q` of an array in groups. -/
abbrev groupOf (x : FVec Ideal S16384x32x32 .f32) (r : Fin 16384) (q : Fin 32) (l : Fin 32) : EReal := x (ix3 r q l)

/-- The greatest of every group, as the reference computes it. -/
noncomputable def tops (x : FVec Ideal S16384x32x32 .f32) : FVec Ideal S16384x32 .f32 :=
  maximumf (broadcastInDim S16384x32 ![] bcast_S_S16384x32 (constant S_ .f32 0xFF800000#32))
    (Host.reduce FloatOps.maximumf x (constant S_ .f32 0xFF800000#32) reducesTo_S16384x32x32_S16384x32_d2 h_S_)

/-- An array of one number per group, spread over the groups. -/
noncomputable def spread (t : FVec Ideal S16384x32 .f32) : FVec Ideal S16384x32x32 .f32 :=
  broadcastInDim S16384x32x32 ![0, 1, 2] bcast_S16384x32x1_S16384x32x32_0_1_2
    (broadcastInDim S16384x32x1 ![0, 1] bcast_S16384x32_S16384x32x1_0_1 t)

/-- The weights of the classes, as the reference computes them. -/
noncomputable def weights (x : FVec Ideal S16384x32x32 .f32) : FVec Ideal S16384x32x32 .f32 :=
  Host.exp (subf x (spread (tops x)))

/-- The sum of every group's weights, as the reference computes it. -/
noncomputable def totals (x : FVec Ideal S16384x32x32 .f32) : FVec Ideal S16384x32 .f32 :=
  Host.reduceAdd (weights x) (constant S_ .f32 0x00000000#32) reducesTo_S16384x32x32_S16384x32_d2 h_S_

/-- A constant at every index. -/
noncomputable def filled (b : BitVec 32) : FVec Ideal S16384x32x32 .f32 :=
  broadcastInDim S16384x32x32 ![] bcast_S_S16384x32x32 (constant S_ .f32 b)

/-- The smoothed probabilities, as the reference computes them. -/
noncomputable def probs (x : FVec Ideal S16384x32x32 .f32) : FVec Ideal S16384x32x32 .f32 :=
  addf (Host.divf (mulf (filled 0x3C23D70A#32) (filled 0x3F800000#32)) (filled 0x42000000#32))
    (mulf (filled 0x3F7D70A4#32) (Host.divf (weights x) (spread (totals x))))

/-- The word of negative infinity reads as the least extended real. -/
theorem ofBits_bot : Ideal.ofBits .f32 0xFF800000#32 = ⊥ := by simp [Ideal.ofBits, Ideal.ieee]

/-- A group's entry of the reference's maxima is the group's greatest. -/
theorem tops_apply (x : FVec Ideal S16384x32x32 .f32) (r : Fin 16384) (q : Fin 32) : tops x (ix2 r q) = top (groupOf x r q) := by
  have hr : S16384x32x32.Reduces [2] S16384x32 := by decide
  have hl : ∀ k : Fin 32, hr.lift (ix2 r q) k = ix3 r q k := fun k => by
    funext a
    match a with
    | ⟨0, _⟩ => rfl
    | ⟨1, _⟩ => rfl
    | ⟨2, _⟩ => rfl
  have hf : Host.reduce FloatOps.maximumf x (constant (F := Ideal) S_ .f32 0xFF800000#32)
      reducesTo_S16384x32x32_S16384x32_d2 h_S_ (ix2 r q) = top (groupOf x r q) := by
    rw [show (FloatOps.maximumf : Ideal .f32 → Ideal .f32 → Ideal .f32) = (max : EReal → EReal → EReal) from rfl]
    rw [Host.reduce_eq_fold_single max x _ _ hr]
    refine (Finset.fold_congr fun k _ => congrArg x (hl k)).trans ?_
    show Finset.fold max (Ideal.ofBits .f32 0xFF800000#32) (groupOf x r q) _ = _
    rw [ofBits_bot]
    rfl
  unfold tops
  rw [maximumf_apply, hf]
  show max (Ideal.ofBits .f32 0xFF800000#32) _ = _
  rw [ofBits_bot]
  exact bot_sup_eq _

/-- A spread array holds its group's number at every class. -/
theorem spread_apply (t : FVec Ideal S16384x32 .f32) (r : Fin 16384) (q l : Fin 32) : spread t (ix3 r q l) = t (ix2 r q) := by
  unfold spread
  pointwise

/-- An entry of the reference's weights. -/
theorem weights_apply (x : FVec Ideal S16384x32x32 .f32) (r : Fin 16384) (q l : Fin 32) :
    weights x (ix3 r q l) = weight (groupOf x r q) l := by
  show Ideal.exp (x (ix3 r q l) - spread (tops x) (ix3 r q l)) = _
  rw [spread_apply, tops_apply]
  rfl

/-- An entry of the reference's sums. -/
theorem totals_apply (x : FVec Ideal S16384x32x32 .f32) (r : Fin 16384) (q : Fin 32) :
    totals x (ix2 r q) = ∑ k, weight (groupOf x r q) k := by
  unfold totals
  pointwise
  exact Finset.sum_congr rfl fun k _ => weights_apply x r q k

/-- A constant's entry. -/
theorem filled_apply (b : BitVec 32) (i : S16384x32x32.Idx) : filled b i = Ideal.ofBits .f32 b := rfl

/-- An entry of the reference's probabilities. -/
theorem probs_apply (x : FVec Ideal S16384x32x32 .f32) (r : Fin 16384) (q l : Fin 32) :
    probs x (ix3 r q l) = prob (groupOf x r q) l := by
  unfold probs
  pointwise
  rw [spread_apply, totals_apply, weights_apply, filled_apply, filled_apply, filled_apply, filled_apply, Ideal.ofBits_one_f32, mul_one]
  rfl

end Cert.ReferenceIdeal.Hand
-- ==== Proof.RefDraw.lean ====
/- The reference's draw: the index its argmax returns is the winner's, and the one-hot row of it is the row drawn. -/
module

public import proofs.«01_k».proof.Proof.RefTensors

@[expose] public section

namespace Cert.ReferenceIdeal.Hand

open Idealize.ShloMosaic Idealize.ShloMosaic.StableHlo Cert.Sampling Cert.ReferenceIdeal.Gen

/-- A pair of a score and an index comes first: its score is greater, or equal with an index that isn't greater. -/
def Before (a b : EReal × BitVec 32) : Prop := b.1 < a.1 ∨ a.1 = b.1 ∧ a.2.toInt ≤ b.2.toInt

/-- A pair comes before itself. -/
theorem Before.refl (a : EReal × BitVec 32) : Before a a := .inr ⟨rfl, le_refl _⟩

/-- What comes before a pair comes before all that the pair comes before. -/
theorem Before.trans {a b c : EReal × BitVec 32} (h : Before a b) (h' : Before b c) : Before a c := by
  rcases h with h | ⟨h, g⟩ <;> rcases h' with h' | ⟨h', g'⟩
  · exact .inl (h'.trans h)
  · exact .inl (h' ▸ h)
  · exact .inl (h ▸ h')
  · exact .inr ⟨h.trans h', g.trans g'⟩

/-- The reducer's body returns one of its two pairs, and that one comes first. -/
theorem reducer_spec (a b : EReal × BitVec 32) :
    (reducer_argmax_f32_i32 (F := Ideal) a b = a ∧ Before a b) ∨ (reducer_argmax_f32_i32 (F := Ideal) a b = b ∧ Before b a) := by
  obtain ⟨a₁, a₂⟩ := a
  obtain ⟨b₁, b₂⟩ := b
  unfold reducer_argmax_f32_i32 Before
  simp only [Ideal.cmpf_def, Ideal.cmp, IntOp.cmpi, Scalar.select, IntOp.ori, IntOp.andi, BitVec.slt]
  rcases lt_trichotomy a₁ b₁ with h | h | h
  · right
    simp [h, h.ne, not_lt.mpr h.le]
  · subst h
    by_cases g : a₂.toInt < b₂.toInt
    · left
      simp [g, g.le]
    · right
      simp [g, not_lt.mp g]
  · left
    simp [h, h.ne', not_lt.mpr h.le]

/-- A fold of the reducer over a list returns a pair of the list, or the one it starts from, that comes before all. -/
theorem foldl_reducer (l : List (EReal × BitVec 32)) : ∀ p : EReal × BitVec 32,
    (l.foldl (reducer_argmax_f32_i32 (F := Ideal)) p ∈ p :: l)
      ∧ ∀ q ∈ p :: l, Before (l.foldl (reducer_argmax_f32_i32 (F := Ideal)) p) q := by
  induction l with
  | nil =>
    intro p
    refine ⟨List.mem_singleton.mpr rfl, fun q hq => ?_⟩
    rw [List.mem_singleton.mp hq]
    exact Before.refl p
  | cons a l ih =>
    intro p
    obtain ⟨hm, hb⟩ := ih (reducer_argmax_f32_i32 (F := Ideal) p a)
    rw [List.foldl_cons]
    refine ⟨?_, fun q hq => ?_⟩
    · rcases List.mem_cons.mp hm with h | h
      · rw [h]
        rcases reducer_spec p a with ⟨e, -⟩ | ⟨e, -⟩ <;> rw [e] <;> simp
      · exact List.mem_cons_of_mem _ (List.mem_cons_of_mem _ h)
    · have h0 := hb _ (List.mem_cons_self ..)
      rcases List.mem_cons.mp hq with rfl | hq
      · refine h0.trans ?_
        rcases reducer_spec q a with ⟨e, h⟩ | ⟨e, h⟩ <;> rw [e]
        exacts [Before.refl q, h]
      · rcases List.mem_cons.mp hq with rfl | hq
        · refine h0.trans ?_
          rcases reducer_spec p q with ⟨e, h⟩ | ⟨e, h⟩ <;> rw [e]
          exacts [h, Before.refl q]
        · exact hb q (List.mem_cons_of_mem _ hq)

/-- The pairs that a reduction over one axis reads at a result index. -/
theorem mem_fiber {α β : Type} {s t : Shape} {a : Fin s.rank} (x : s.Idx → α) (y : s.Idx → β) (h' : s.ReducesTo [a] t)
    (h : s.Reduces [a] t) (j : t.Idx) (p : α × β) :
    p ∈ Host.argReduceFiber x y h' j ↔ ∃ k : Fin (s.size a), p = (x (h.lift j k), y (h.lift j k)) := by
  unfold Host.argReduceFiber
  rw [Shape.ReducesTo.drop_eq_drop _ h]
  simp only [List.mem_map, List.mem_filter, List.mem_finRange, true_and, decide_eq_true_eq]
  constructor
  · rintro ⟨n, hn, rfl⟩
    refine ⟨s.rowMajor.symm n a, ?_⟩
    have e := h.lift_drop (s.rowMajor.symm n)
    rw [hn] at e
    rw [e]
  · rintro ⟨k, rfl⟩
    refine ⟨s.rowMajor (h.lift j k), ?_, ?_⟩
    · rw [Equiv.symm_apply_apply]
      exact h.drop_lift j k
    · rw [Equiv.symm_apply_apply]

/-- The indices that an argmax over one axis returns. -/
noncomputable def argmaxIndex {s t u : Shape} {a : Fin s.rank} (v : FVec Ideal s .f32) (y : IVec s 32) (ix : FVec Ideal u .f32)
    (iy : IVec u 32) (h' : s.ReducesTo [a] t) (hu : 0 < u.numel) : IVec t 32 := fun j =>
  (Host.argReduce (reducer_argmax_f32_i32 (F := Ideal)) v y ix iy h' hu j).2

/-- The reducer's fold over one axis ends, at a result index, with a pair that comes before every pair it read; the pair is
    one that it read, or the one that it started from. -/
theorem argmax_spec {s t u : Shape} {a : Fin s.rank} (v : FVec Ideal s .f32) (y : IVec s 32) (ix : FVec Ideal u .f32)
    (iy : IVec u 32) (h' : s.ReducesTo [a] t) (h : s.Reduces [a] t) (hu : 0 < u.numel) (j : t.Idx) :
    ∃ p : EReal × BitVec 32,
      argmaxIndex v y ix iy h' hu j = p.2
        ∧ (p = (ix (Shape.Idx.first hu), iy (Shape.Idx.first hu))
          ∨ ∃ k : Fin (s.size a), p = (v (h.lift j k), y (h.lift j k)))
        ∧ Before p (ix (Shape.Idx.first hu), iy (Shape.Idx.first hu))
        ∧ ∀ k : Fin (s.size a), Before p (v (h.lift j k), y (h.lift j k)) := by
  obtain ⟨hin, hbest⟩ := foldl_reducer (Host.argReduceFiber v y h' j) (ix (Shape.Idx.first hu), iy (Shape.Idx.first hu))
  refine ⟨_, by rw [argmaxIndex, Ideal.argReduce_eq_reduce2, Host.reduce2_eq_foldl_fiber], ?_, hbest _ (List.mem_cons_self ..), fun k =>
    hbest _ (List.mem_cons_of_mem _ ((mem_fiber v y h' h j _).mpr ⟨k, rfl⟩))⟩
  exact (List.mem_cons.mp hin).imp_right (mem_fiber v y h' h j _).mp

/-- The index of the greatest score of every group, as the reference computes it. -/
noncomputable def firsts (v : FVec Ideal S16384x32x32 .f32) : IVec S16384x32 32 :=
  argmaxIndex v (iotaInDim S16384x32x32 32 2) (constant S_ .f32 0xFF800000#32) (constantI S_ 32 0#32)
    reducesTo_S16384x32x32_S16384x32_d2 h_S_

/-- A lane's index read as a signed number. -/
theorem lane_toInt (l : Fin 32) : (BitVec.ofNat 32 l.val).toInt = l.val := by
  revert l
  decide

/-- The index that the argmax returns for a group is its winner's. -/
theorem firsts_apply (v : FVec Ideal S16384x32x32 .f32) (r : Fin 16384) (q l : Fin 32) (hl : Wins (groupOf v r q) l) :
    firsts v (ix2 r q) = BitVec.ofNat 32 l := by
  have hr : S16384x32x32.Reduces [2] S16384x32 := by decide
  have hlift : ∀ k : Fin 32, hr.lift (ix2 r q) k = ix3 r q k := fun k => by
    funext a
    match a with
    | ⟨0, _⟩ => rfl
    | ⟨1, _⟩ => rfl
    | ⟨2, _⟩ => rfl
  obtain ⟨p, hp, hin, -, hbest⟩ := argmax_spec v (iotaInDim S16384x32x32 32 2) (constant S_ .f32 0xFF800000#32)
    (constantI S_ 32 0#32) reducesTo_S16384x32x32_S16384x32_d2 hr h_S_ (ix2 r q)
  have hb : ∀ k : Fin 32, Before p (v (ix3 r q k), BitVec.ofNat 32 k) := fun k => by
    have := hbest k
    rw [hlift k] at this
    exact this
  have hi : constant (F := Ideal) S_ .f32 0xFF800000#32 (Shape.Idx.first h_S_) = ⊥ := ofBits_bot
  rw [hi] at hin
  unfold firsts
  rw [hp]
  have hwin : ∀ k : Fin 32, p.1 = v (ix3 r q k) → p.2 = BitVec.ofNat 32 k → l = k := by
    intro k h₁ h₂
    refine hl.unique ⟨fun j => ?_, fun j hj => ?_⟩
    · rcases hb j with h | ⟨h, -⟩
      · exact (h₁ ▸ h).le
      · exact (h.symm.trans h₁).le
    · rcases hb j with h | ⟨-, h⟩
      · rw [h₁] at h
        exact h
      · rw [h₂] at h
        change (BitVec.ofNat 32 k.val).toInt ≤ (BitVec.ofNat 32 j.val).toInt at h
        rw [lane_toInt, lane_toInt] at h
        have : j.val < k.val := hj
        omega
  rcases hin with h | ⟨k, hk⟩
  · have h₁ : p.1 = v (ix3 r q 0) := by
      rcases hb 0 with g | ⟨g, -⟩
      · rw [h] at g
        exact absurd g not_lt_bot
      · exact g
    rw [hwin 0 h₁ (by rw [h]; rfl), h]
    rfl
  · rw [hlift k] at hk
    rw [hwin k (by rw [hk]) (by rw [hk]; rfl), hk]
    rfl

/-- The one-hot rows of an array of indices, as the reference computes them. -/
noncomputable def oneHot (n : IVec S16384x32 32) : FVec Ideal S16384x32x32 .f32 :=
  uitofp .f32 (cmpi .eq
    (broadcastInDim S16384x32x32 ![0, 1, 2] bcast_S16384x32x1_S16384x32x32_0_1_2
      (broadcastInDim S16384x32x1 ![0, 1] bcast_S16384x32_S16384x32x1_0_1 n))
    (broadcastInDim S16384x32x32 ![0, 1, 2] bcast_S1x1x32_S16384x32x32_0_1_2 (iotaInDim S1x1x32 32 2)))

/-- A one-hot row at a class: one where the row's index is the class's, and zero elsewhere. -/
theorem oneHot_apply (n : IVec S16384x32 32) (r : Fin 16384) (q l : Fin 32) :
    oneHot n (ix3 r q l) = if n (ix2 r q) = BitVec.ofNat 32 l then 1 else 0 := by
  have e : oneHot n (ix3 r q l) = FloatOps.uitofp (F := Ideal) .f32 (IntOp.cmpi .eq (n (ix2 r q)) (BitVec.ofNat 32 l)) := by
    unfold oneHot
    pointwise
  rw [e]
  show (((BitVec.ofBool (n (ix2 r q) == BitVec.ofNat 32 l)).toNat : ℝ) : EReal) = _
  split
  · rename_i h
    simp [h]
  · rename_i h
    simp [h]

/-- The one-hot row of the greatest score's index is the row drawn. -/
theorem oneHot_firsts (v : FVec Ideal S16384x32x32 .f32) (r : Fin 16384) (q l : Fin 32) :
    oneHot (firsts v) (ix3 r q l) = drawn (groupOf v r q) l := by
  obtain ⟨w, hw⟩ := exists_wins (groupOf v r q)
  rw [oneHot_apply, firsts_apply v r q w hw]
  unfold drawn
  have : BitVec.ofNat 32 w.val = BitVec.ofNat 32 l.val ↔ Wins (groupOf v r q) l := by
    constructor
    · intro h
      have := congrArg BitVec.toInt h
      rw [lane_toInt, lane_toInt] at this
      rwa [← show w = l from Fin.ext (by exact_mod_cast this)]
    · intro h
      rw [hw.unique h]
  by_cases h : Wins (groupOf v r q) l
  · rw [if_pos (this.mpr h), if_pos h]
  · rw [if_neg (this.not.mpr h), if_neg h]

end Cert.ReferenceIdeal.Hand
-- ==== Proof.RefRun.lean ====
/- The reference's line of operations, read at an index: the row it returns is the one-hot row of the class drawn, plus
   the probabilities' difference from themselves. -/
module

public import proofs.«01_k».proof.Proof.RefDraw

@[expose] public section

namespace Cert.ReferenceIdeal.Hand

open Idealize.ShloMosaic Idealize.ShloMosaic.StableHlo Idealize.SL.Sem Cert.SingleAssignment Cert.Sampling Cert.ReferenceIdeal.Gen

/-- The counter of a class: its position in the array. -/
def counter (r q l : ℕ) : BitVec 32 := BitVec.ofNat 32 (1024 * r + 32 * q + l)

/-- The noises of a group. -/
noncomputable abbrev noises (r q : ℕ) (l : Fin 32) : EReal := gumbel (word (counter r q l))

/-- An integer constant at every index. -/
def filledI (w : ℕ) (b : BitVec w) : IVec S16384x32x32 w :=
  broadcastInDim S16384x32x32 ![] bcast_S_S16384x32x32 (constantI S_ w b)

/-- The noises of an array of random words, as the reference computes them. -/
noncomputable def noiseOf (w : IVec S16384x32x32 32) : FVec Ideal S16384x32x32 .f32 :=
  Host.negf (Host.log (Host.negf (Host.log (maximumf (filled 0x00800000#32) (addf (mulf (subf
    (bitcastToFloat .f32 (ori (Host.shrui w (filledI 32 9#32)) (filledI 32 1065353216#32)))
    (filled 0x3F800000#32)) (filled 0x3F800000#32)) (filled 0x00800000#32))))))

/-- A word's noise is its Gumbel noise. -/
theorem noiseOf_apply (w : IVec S16384x32x32 32) (i : S16384x32x32.Idx) : noiseOf w i = gumbel (w i) := by
  have hs : Host.shrui w (filledI 32 9#32) i = w i >>> 9#32 := shr_of rfl rfl rfl (by decide) i
  unfold noiseOf gumbel
  rw [← hs]
  simp only [Host.negf_apply, Host.log_apply, maximumf_apply, addf_apply, mulf_apply, subf_apply, bitcastToFloat_apply,
    ori_apply, filled_apply]
  show -Ideal.log (-Ideal.log (max _ ((_ - _) * _ + _))) = _
  rw [Ideal.ofBits_one_f32, mul_one]
  rfl

/-- The positions of the classes, as the reference computes them. -/
def positions : IVec S16384x32x32 64 :=
  addi (addi (muli (filledI 64 1024#64) (iotaInDim S16384x32x32 64 0)) (muli (filledI 64 32#64) (iotaInDim S16384x32x32 64 1)))
    (muli (filledI 64 1#64) (iotaInDim S16384x32x32 64 2))

/-- A class's position counts the classes before it. -/
theorem positions_apply (r : Fin 16384) (q l : Fin 32) :
    positions (ix3 r q l) = BitVec.ofNat 64 (1024 * r + 32 * q + l) := by
  show 1024#64 * BitVec.ofNat 64 r + 32#64 * BitVec.ofNat 64 q + 1#64 * BitVec.ofNat 64 l = _
  apply BitVec.eq_of_toNat_eq
  simp only [BitVec.toNat_add, BitVec.toNat_mul, BitVec.toNat_ofNat]
  omega

/-- The positions' lower words are the counters. -/
theorem low_apply (r : Fin 16384) (q l : Fin 32) :
    trunci 32 positions natLt_32_64 (ix3 r q l) = counter r q l := by
  show (positions (ix3 r q l)).setWidth 32 = _
  rw [positions_apply]
  apply BitVec.eq_of_toNat_eq
  simp only [counter, BitVec.toNat_setWidth, BitVec.toNat_ofNat]
  omega

/-- The positions' upper words are zero. -/
theorem high_apply (r : Fin 16384) (q l : Fin 32) :
    trunci 32 (Host.shrui positions (filledI 64 32#64)) natLt_32_64 (ix3 r q l) = 0#32 := by
  have h : Host.shrui positions (filledI 64 32#64) (ix3 r q l) = positions (ix3 r q l) >>> 32#64 := by
    unfold Host.shrui IntOp.shrui
    exact if_pos (show (32#64).toNat < 64 by decide)
  show (Host.shrui positions (filledI 64 32#64) (ix3 r q l)).setWidth 32 = _
  rw [h, positions_apply]
  apply BitVec.eq_of_toNat_eq
  simp only [BitVec.toNat_setWidth, BitVec.ushiftRight_eq', BitVec.toNat_ushiftRight, BitVec.toNat_ofNat, Nat.shiftRight_eq_div_pow]
  norm_num
  omega

/-- The key's two words in one array, as the reference computes them. -/
def key : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩]
    concatenates_S1_S1_S2_d0

/-- The key's first word is 0. -/
theorem key_zero (j : S_.Idx) : shapeCast S_ (extractStridedSlice S1 ![0] key slices_S2_S1_0) shapeCasts_S1_S_ j = 0#32 := by
  obtain rfl : j = ix0 := funext fun a => a.elim0
  unfold key
  pointwise
  rfl

/-- The key's second word is 42. -/
theorem key_one (j : S_.Idx) : shapeCast S_ (extractStridedSlice S1 ![1] key slices_S2_S1_1) shapeCasts_S1_S_ j = 42#32 := by
  obtain rfl : j = ix0 := funext fun a => a.elim0
  unfold key
  pointwise
  rfl

/-- The row of a group as the reference returns it: the row drawn, plus the probability's difference from itself. -/
noncomputable def refRow (x : FVec Ideal S16384x32x32 .f32) (r : Fin 16384) (q l : Fin 32) : EReal :=
  drawn (score (groupOf x r q) (noises r q)) l + (prob (groupOf x r q) l - prob (groupOf x r q) l)

set_option maxRecDepth 8192 in
set_option maxHeartbeats 4000000 in
/-- What the reference's line leaves: the logits in groups, the rows of the groups, and these rows side by side. -/
theorem main_line (d : Dev nD) : Line (Val := Elt Ideal) 1 (main d) 323 fun W =>
    rd W main_v0 = shapeCast S16384x32x32 (rd W main_arg0) shapeCasts_S16384x1024_S16384x32x32
      ∧ (∀ r q l, rd W main_v70 (ix3 r q l) = refRow (rd W main_v0) r q l)
      ∧ rd W main_v71 = shapeCast S16384x1024 (rd W main_v70) shapeCasts_S16384x32x32_S16384x1024 := by
  apply Line.mono
  case h =>
    unfold main main_part0 main_part1 fn_argmax.body fn_one_hot.body
    repeat' (first
      | exact Line.nil
      | apply Line.bind words_line
      | apply Line.cons (Step.binary (by decide)) (by decide) (by decide)
      | apply Line.cons (Step.unary (by decide)) (by decide) (by decide)
      | apply Line.cons Step.nullary (by decide) (by decide)
      | apply Line.cons (Step.reshape (by decide)) (by decide) (by decide)
      | apply Line.cons (Step.quaternary (by decide)) (by decide) (by decide))
  case hE =>
    intro W h
    dsimp only [TRef.toBuf, TRef.ofBuf, cast_eq] at h
    obtain ⟨a0, a1, a2, a3, a4, a5, a6, a7, a8, a9, a10, a11, a12, a13, a14, a15, a16, a17, a18, a19, a20, a21, a22, a23, a24,
      a25, a26, h⟩ := h
    have hp : rd W main_v19 = probs (rd W main_v0) := by
      unfold rd
      rw [a26, a22, a25, a21, a19, a24, a14, a13, a12, a11, a18, a16, a9, a8, a7, a6, a5, a4, a2, a1, a3, a10, a15, a17, a20, a23]
      rfl
    obtain ⟨b0, b1, b2, b3, b4, b5, b6, b7, b8, b9, aLog, b10, b11, b12, b13, h⟩ := h
    have hk₀ : ∀ j : S_.Idx, (rd W main_v29 j : BitVec 32) = 0#32 := fun j => by
      unfold rd
      rw [b11, b10, b9, b4, b3, b2, b8, b7, b6, b0, b1, b5]
      exact key_zero j
    have hk₁ : ∀ j : S_.Idx, (rd W main_v31 j : BitVec 32) = 42#32 := fun j => by
      unfold rd
      rw [b13, b12, b9, b4, b3, b2, b8, b7, b6, b0, b1, b5]
      exact key_one j
    obtain ⟨c0, c1, c2, c3, c4, c5, c6, c7, c8, c9, c10, c11, c12, c13, c14, c15, c16, c17, c18, hwords, h⟩ := h
    have hpos : rd W main_v42 = positions := by
      unfold rd
      rw [c13, c12, c11, c10, c9, c8, c7, c6, c5, c4, c3, c2, c1, c0]
      rfl
    have hlow : ∀ r q l, rd W main_v45 (ix3 r q l) = counter r q l := fun r q l => by
      unfold rd at hpos ⊢
      rw [c17, hpos]
      exact low_apply r q l
    have hhigh : ∀ r q l, (rd W main_v46 (ix3 r q l) : BitVec 32) = 0#32 := fun r q l => by
      unfold rd at hpos ⊢
      rw [c18, c16, c15, c14, hpos]
      exact high_apply r q l
    obtain ⟨d0, d1, d2, d3, d4, d5, d6, d7, d8, d9, d10, d11, d12, d13, d14, d15, d16, d17, d18, d19, d20, d21, d22, d23, d24,
      h⟩ := h
    have hword : ∀ r q l, rd W main_v48 (ix3 r q l) = word (counter r q l) := fun r q l => by
      have e := congrArg (fun p : BitVec 32 × BitVec 32 => p.1 ^^^ p.2) (hwords _ _ hk₀ hk₁ (ix3 r q l))
      rw [hhigh, hlow] at e
      unfold rd
      rw [d0]
      exact e
    have hscore : rd W main_v66 = addf (noiseOf (rd W main_v48)) (Host.log (rd W main_v19)) := by
      unfold rd
      rw [d24, d23, d22, d21, d20, d19, d18, d17, d16, d15, d14, d13, d12, d11, d10, d9, d8, d7, d6, d5, d4, d3, d2, d1, aLog]
      rfl
    have hgroup : ∀ r q, groupOf (rd W main_v66) r q = score (groupOf (rd W main_v0) r q) (noises r q) := fun r q => by
      funext l
      have e : groupOf (rd W main_v66) r q l = noiseOf (rd W main_v48) (ix3 r q l) + Ideal.log (probs (rd W main_v0) (ix3 r q l)) := by
        rw [← hp, hscore]
        rfl
      rw [e, noiseOf_apply, hword, probs_apply, add_comm]
      rfl
    obtain ⟨e0, e1, e2, -, e4, f0, f1, f2, f3, f4, f5, g0, g1, g2, -⟩ := h
    have hdraw : rd W main_v68 = oneHot (firsts (rd W main_v66)) := by
      unfold rd
      rw [f5, f4, f3, f2, f1, f0, e4, e2, e1, e0]
      rfl
    refine ⟨a0, fun r q l => ?_, g2⟩
    have e : rd W main_v70 (ix3 r q l) = oneHot (firsts (rd W main_v66)) (ix3 r q l)
        + (probs (rd W main_v0) (ix3 r q l) - probs (rd W main_v0) (ix3 r q l)) := by
      rw [← hdraw, ← hp]
      unfold rd
      rw [g1, g0]
      rfl
    rw [e, oneHot_firsts, hgroup, probs_apply]
    rfl

end Cert.ReferenceIdeal.Hand
-- ==== Proof.Lanes.lean ====
/- The kernel's exchange of values between the 32 lanes of a group: five levels, after each of which a lane has combined
   twice as many of its group's values. -/
module

public import proofs.«01_k».proof.Proof.Gen.KernelIdeal.Frame
public import proofs.«01_k».proof.Proof.Sampling
public import Idealize.ShloMosaic.Lib.Pointwise

@[expose] public section

namespace Cert.KernelIdeal.Hand

open Idealize.ShloMosaic Cert.KernelIdeal Cert.KernelIdeal.Gen

/-! ## One level on a function of the lane -/

/-- The values of the lanes `l`, `l + 1`, …, `l + n` (around the group), combined in this order. -/
def combined {α : Type} (op : α → α → α) (g : Fin 32 → α) : ℕ → Fin 32 → α
  | 0, l => g l
  | n + 1, l => op (combined op g n l) (g (l + Fin.ofNat 32 (n + 1)))

/-- Two combinations of neighbouring lanes combine. -/
theorem combined_add {α : Type} (op : α → α → α) (hop : ∀ a b c, op (op a b) c = op a (op b c)) (g : Fin 32 → α) (n m : ℕ)
    (l : Fin 32) : op (combined op g n l) (combined op g m (l + Fin.ofNat 32 (n + 1))) = combined op g (n + m + 1) l := by
  induction m with
  | zero => rfl
  | succ m ih =>
    rw [combined, ← hop, ih, ← Nat.add_assoc n m 1, combined]
    congr 2
    rw [add_assoc]
    congr 1
    ext
    simp only [Fin.val_add, Fin.val_ofNat]
    omega

/-- Every lane is some lanes after any other. -/
theorem exists_after (l k : Fin 32) : ∃ i ≤ 31, l + Fin.ofNat 32 i = k := by
  revert l k
  decide +kernel

/-- What holds up to `n` and at `n + 1` holds up to `n + 1`. -/
theorem forall_le_step {n : ℕ} {p : ℕ → Prop} : (∀ i ≤ n + 1, p i) ↔ (∀ i ≤ n, p i) ∧ p (n + 1) :=
  ⟨fun h => ⟨fun i hi => h i (by omega), h _ le_rfl⟩, fun h i hi =>
    (Nat.lt_or_eq_of_le hi).elim (fun hl => h.1 i (by omega)) fun e => e ▸ h.2⟩

/-- The greatest of all lanes' values. -/
theorem combined_max (g : Fin 32 → EReal) (l : Fin 32) : combined max g 31 l = Cert.Sampling.top g := by
  have h : ∀ n b, combined max g n l ≤ b ↔ ∀ i ≤ n, g (l + Fin.ofNat 32 i) ≤ b := fun n b => by
    induction n with
    | zero => simp [combined]
    | succ n ih => rw [combined, max_le_iff, ih]; exact forall_le_step.symm
  refine eq_of_forall_ge_iff fun b => ?_
  rw [h, Cert.Sampling.top, Finset.sup_le_iff]
  refine ⟨fun H k _ => ?_, fun H i _ => H _ (Finset.mem_univ _)⟩
  obtain ⟨i, hi, rfl⟩ := exists_after l k
  exact H i hi

/-- The least of all lanes' values is at least `b` just when all are. -/
theorem le_combined_min (g : Fin 32 → EReal) (l : Fin 32) (b : EReal) : b ≤ combined min g 31 l ↔ ∀ k, b ≤ g k := by
  have h : ∀ n, b ≤ combined min g n l ↔ ∀ i ≤ n, b ≤ g (l + Fin.ofNat 32 i) := fun n => by
    induction n with
    | zero => simp [combined]
    | succ n ih => rw [combined, le_min_iff, ih]; exact forall_le_step.symm
  rw [h]
  refine ⟨fun H k => ?_, fun H i _ => H _⟩
  obtain ⟨i, hi, rfl⟩ := exists_after l k
  exact H i hi

/-- The sum of all lanes' values. -/
theorem combined_sum (g : Fin 32 → EReal) (l : Fin 32) : combined (· + ·) g 31 l = ∑ k, g k := by
  have h : ∀ n, combined (· + ·) g n l = ∑ i ∈ Finset.range (n + 1), g (l + Fin.ofNat 32 i) := fun n => by
    induction n with
    | zero => simp [combined]
    | succ n ih => rw [Finset.sum_range_succ, ← ih, combined]
  rw [h, ← Equiv.sum_comp (Equiv.addLeft l) g, Finset.sum_range]
  refine Finset.sum_congr rfl fun k _ => ?_
  rw [show Fin.ofNat 32 (k : ℕ) = k from Fin.ext (Nat.mod_eq_of_lt k.isLt)]
  rfl

/-! ## One level on the kernel's blocks -/

/-- The lane `l` of the group `q`. -/
def lane (q l : Fin 32) : Fin 1024 := ⟨32 * q + l, by omega⟩

/-- The row `r` and the group `q` of a block. -/
abbrev grp (x : FVec Ideal S512x1024 .f32) (r : Fin 512) (q l : Fin 32) : EReal := x (ix2 r (lane q l))

/-- The number of a lane in its group. -/
theorem number_apply (r : Fin 512) (q l : Fin 32) : k0_pay2 (ix2 r (lane q l)) = BitVec.ofNat 32 l := by
  pointwise [k0_pay2]
  have h : ∀ q l : Fin 32, BitVec.ofNat 32 (lane q l) &&& 31#32 = BitVec.ofNat 32 l := by decide +kernel
  exact h q l

/-- A block whose lanes are turned by `d`, the first `d` going to the end. -/
theorem turned_apply (a d : ℕ) (hd : a + d = 1024) (x : FVec Ideal S512x1024 .f32) (h₁ : S512x1024.Slices ![0, d] ⟨2, ![512, a]⟩)
    (h₂ : S512x1024.Slices ![0, 0] ⟨2, ![512, d]⟩) (h₃ : Shape.Concatenates [⟨2, ![512, a]⟩, ⟨2, ![512, d]⟩] S512x1024 1)
    (r : Fin 512) (j j' : Fin 1024) (hj : j'.val = if j.val < a then j.val + d else j.val - a) :
    concatenate S512x1024 1 [⟨⟨2, ![512, a]⟩, extractStridedSlice ⟨2, ![512, a]⟩ ![0, d] x h₁⟩,
      ⟨⟨2, ![512, d]⟩, extractStridedSlice ⟨2, ![512, d]⟩ ![0, 0] x h₂⟩] h₃ (ix2 r j) = x (ix2 r j') := by
  rw [concatenate_pair_apply]
  by_cases h : j.val < a
  · rw [if_pos h] at hj
    refine (dif_pos (show ((ix2 r j : S512x1024.Idx) 1).val < a from h)).trans (congrArg x (funext fun i => Fin.ext ?_))
    match i with
    | ⟨0, _⟩ => exact Nat.zero_add r.val
    | ⟨1, _⟩ => exact (Nat.add_comm d j.val).trans hj.symm
  · rw [if_neg h] at hj
    refine (dif_neg (show ¬ ((ix2 r j : S512x1024.Idx) 1).val < a from h)).trans (congrArg x (funext fun i => Fin.ext ?_))
    match i with
    | ⟨0, _⟩ => exact Nat.zero_add r.val
    | ⟨1, _⟩ => exact (Nat.zero_add (j.val - a)).trans hj.symm

/-- Every lane's value replaced by the one `k` lanes further on in its group, as the kernel does it: the block is turned by
    `k` lanes, and by `32 - k` lanes the other way for the group's last `k` lanes. -/
noncomputable def pulled (k a c d : ℕ) (x : FVec Ideal S512x1024 .f32) (h₁ : S512x1024.Slices ![0, k] ⟨2, ![512, a]⟩)
    (h₂ : S512x1024.Slices ![0, 0] ⟨2, ![512, k]⟩) (h₃ : Shape.Concatenates [⟨2, ![512, a]⟩, ⟨2, ![512, k]⟩] S512x1024 1)
    (h₄ : S512x1024.Slices ![0, d] ⟨2, ![512, c]⟩) (h₅ : S512x1024.Slices ![0, 0] ⟨2, ![512, d]⟩)
    (h₆ : Shape.Concatenates [⟨2, ![512, c]⟩, ⟨2, ![512, d]⟩] S512x1024 1) : FVec Ideal S512x1024 .f32 :=
  select (cmpi .slt k0_pay2 (broadcast S512x1024 (BitVec.ofNat 32 c)))
    (concatenate S512x1024 1 [⟨⟨2, ![512, a]⟩, extractStridedSlice ⟨2, ![512, a]⟩ ![0, k] x h₁⟩,
      ⟨⟨2, ![512, k]⟩, extractStridedSlice ⟨2, ![512, k]⟩ ![0, 0] x h₂⟩] h₃)
    (concatenate S512x1024 1 [⟨⟨2, ![512, c]⟩, extractStridedSlice ⟨2, ![512, c]⟩ ![0, d] x h₄⟩,
      ⟨⟨2, ![512, d]⟩, extractStridedSlice ⟨2, ![512, d]⟩ ![0, 0] x h₅⟩] h₆)

/-- What a lane finds `k` lanes further on. -/
theorem pulled_apply (k a c d : ℕ) (hk : k < 32 ∧ a + k = 1024 ∧ c + k = 32 ∧ d = 992 + k) (x : FVec Ideal S512x1024 .f32)
    (h₁ h₂ h₃ h₄ h₅ h₆) (r : Fin 512) (q l : Fin 32) :
    grp (pulled k a c d x h₁ h₂ h₃ h₄ h₅ h₆) r q l = grp x r q (l + Fin.ofNat 32 k) := by
  have hc : cmpi .slt k0_pay2 (broadcast S512x1024 (BitVec.ofNat 32 c)) (ix2 r (lane q l)) = if l.val + k < 32 then 1#1 else 0#1 := by
    show BitVec.ofBool ((k0_pay2 (ix2 r (lane q l))).slt (BitVec.ofNat 32 c)) = _
    rw [number_apply]
    have h : ∀ c ≤ 32, ∀ l : Fin 32, BitVec.ofBool ((BitVec.ofNat 32 l).slt (BitVec.ofNat 32 c)) = if l.val < c then 1#1 else 0#1 := by
      decide +kernel
    rw [h c (by omega) l]
    exact if_congr (by omega) rfl rfl
  have hs : (l + Fin.ofNat 32 k).val = if l.val + k < 32 then l.val + k else l.val + k - 32 := by
    rw [Fin.val_add, Fin.val_ofNat]
    split <;> omega
  unfold grp pulled select
  show Scalar.select (cmpi .slt k0_pay2 (broadcast S512x1024 (BitVec.ofNat 32 c)) (ix2 r (lane q l))) _ _ = _
  rw [hc]
  by_cases hl : l.val + k < 32
  · rw [if_pos hl] at hs
    rw [if_pos hl]
    refine (if_pos rfl).trans (turned_apply a k hk.2.1 x _ _ _ r (lane q l) _ ?_)
    show 32 * q.val + (l + Fin.ofNat 32 k).val = if 32 * q.val + l.val < a then 32 * q.val + l.val + k else 32 * q.val + l.val - a
    split <;> omega
  · rw [if_neg hl] at hs
    rw [if_neg hl]
    refine (if_neg (by decide)).trans (turned_apply c d (by omega) x _ _ _ r (lane q l) _ ?_)
    show 32 * q.val + (l + Fin.ofNat 32 k).val = if 32 * q.val + l.val < c then 32 * q.val + l.val + d else 32 * q.val + l.val - c
    split <;> omega

/-- One level, one lane on. -/
noncomputable def pull1 (x : FVec Ideal S512x1024 .f32) : FVec Ideal S512x1024 .f32 :=
  pulled 1 1023 31 993 x slices_S512x1024_o0_1_S512x1023 slices_S512x1024_o0_0_S512x1 concatenates_S512x1023_S512x1_S512x1024_d1
    slices_S512x1024_o0_993_S512x31 slices_S512x1024_o0_0_S512x993 concatenates_S512x31_S512x993_S512x1024_d1

/-- One level, two lanes on. -/
noncomputable def pull2 (x : FVec Ideal S512x1024 .f32) : FVec Ideal S512x1024 .f32 :=
  pulled 2 1022 30 994 x slices_S512x1024_o0_2_S512x1022 slices_S512x1024_o0_0_S512x2 concatenates_S512x1022_S512x2_S512x1024_d1
    slices_S512x1024_o0_994_S512x30 slices_S512x1024_o0_0_S512x994 concatenates_S512x30_S512x994_S512x1024_d1

/-- One level, four lanes on. -/
noncomputable def pull4 (x : FVec Ideal S512x1024 .f32) : FVec Ideal S512x1024 .f32 :=
  pulled 4 1020 28 996 x slices_S512x1024_o0_4_S512x1020 slices_S512x1024_o0_0_S512x4 concatenates_S512x1020_S512x4_S512x1024_d1
    slices_S512x1024_o0_996_S512x28 slices_S512x1024_o0_0_S512x996 concatenates_S512x28_S512x996_S512x1024_d1

/-- One level, eight lanes on. -/
noncomputable def pull8 (x : FVec Ideal S512x1024 .f32) : FVec Ideal S512x1024 .f32 :=
  pulled 8 1016 24 1000 x slices_S512x1024_o0_8_S512x1016 slices_S512x1024_o0_0_S512x8 concatenates_S512x1016_S512x8_S512x1024_d1
    slices_S512x1024_o0_1000_S512x24 slices_S512x1024_o0_0_S512x1000 concatenates_S512x24_S512x1000_S512x1024_d1

/-- One level, sixteen lanes on. -/
noncomputable def pull16 (x : FVec Ideal S512x1024 .f32) : FVec Ideal S512x1024 .f32 :=
  pulled 16 1008 16 1008 x slices_S512x1024_o0_16_S512x1008 slices_S512x1024_o0_0_S512x16 concatenates_S512x1008_S512x16_S512x1024_d1
    slices_S512x1024_o0_1008_S512x16 slices_S512x1024_o0_0_S512x1008 concatenates_S512x16_S512x1008_S512x1024_d1

/-- One level: every lane combines its value with the one that it pulls. -/
noncomputable def level (op : FVec Ideal S512x1024 .f32 → FVec Ideal S512x1024 .f32 → FVec Ideal S512x1024 .f32)
    (pull : FVec Ideal S512x1024 .f32 → FVec Ideal S512x1024 .f32) (x : FVec Ideal S512x1024 .f32) : FVec Ideal S512x1024 .f32 :=
  op x (pull x)

/-- The five levels. -/
noncomputable def levels (op : FVec Ideal S512x1024 .f32 → FVec Ideal S512x1024 .f32 → FVec Ideal S512x1024 .f32)
    (x : FVec Ideal S512x1024 .f32) : FVec Ideal S512x1024 .f32 :=
  level op pull16 (level op pull8 (level op pull4 (level op pull2 (level op pull1 x))))

/-- A level takes combinations of `n + 1` lanes to combinations of twice as many. -/
theorem level_combined (op : FVec Ideal S512x1024 .f32 → FVec Ideal S512x1024 .f32 → FVec Ideal S512x1024 .f32)
    (f : EReal → EReal → EReal) (hf : ∀ x y i, op x y i = f (x i) (y i)) (hop : ∀ a b c, f (f a b) c = f a (f b c))
    (pull : FVec Ideal S512x1024 .f32 → FVec Ideal S512x1024 .f32) (r : Fin 512) (q : Fin 32) (g : Fin 32 → EReal) (n : ℕ)
    (hp : ∀ x l, grp (pull x) r q l = grp x r q (l + Fin.ofNat 32 (n + 1))) (x : FVec Ideal S512x1024 .f32)
    (hx : ∀ l, grp x r q l = combined f g n l) (l : Fin 32) :
    grp (level op pull x) r q l = combined f g (n + n + 1) l := by
  refine (hf x (pull x) _).trans ?_
  rw [← combined_add f hop, ← hx, ← hx, ← hp]

/-- After the five levels every lane has combined all of its group's values. -/
theorem levels_combined (op : FVec Ideal S512x1024 .f32 → FVec Ideal S512x1024 .f32 → FVec Ideal S512x1024 .f32)
    (f : EReal → EReal → EReal) (hf : ∀ x y i, op x y i = f (x i) (y i)) (hop : ∀ a b c, f (f a b) c = f a (f b c))
    (x : FVec Ideal S512x1024 .f32) (r : Fin 512) (q l : Fin 32) :
    grp (levels op x) r q l = combined f (grp x r q) 31 l := by
  unfold levels
  refine level_combined op f hf hop pull16 r q _ 15 (fun x l => pulled_apply 16 _ _ _ (by decide) x _ _ _ _ _ _ r q l) _ (fun l => ?_) l
  refine level_combined op f hf hop pull8 r q _ 7 (fun x l => pulled_apply 8 _ _ _ (by decide) x _ _ _ _ _ _ r q l) _ (fun l => ?_) l
  refine level_combined op f hf hop pull4 r q _ 3 (fun x l => pulled_apply 4 _ _ _ (by decide) x _ _ _ _ _ _ r q l) _ (fun l => ?_) l
  refine level_combined op f hf hop pull2 r q _ 1 (fun x l => pulled_apply 2 _ _ _ (by decide) x _ _ _ _ _ _ r q l) _ (fun l => ?_) l
  exact level_combined op f hf hop pull1 r q _ 0 (fun x l => pulled_apply 1 _ _ _ (by decide) x _ _ _ _ _ _ r q l) _ (fun l => rfl) l

/-- Five levels of maxima. -/
theorem levels_max (x : FVec Ideal S512x1024 .f32) (r : Fin 512) (q l : Fin 32) :
    grp (levels maximumf x) r q l = Cert.Sampling.top (grp x r q) :=
  (levels_combined maximumf max (fun _ _ _ => rfl) max_assoc x r q l).trans (combined_max _ l)

/-- Five levels of sums. -/
theorem levels_sum (x : FVec Ideal S512x1024 .f32) (r : Fin 512) (q l : Fin 32) :
    grp (levels addf x) r q l = ∑ k, grp x r q k :=
  (levels_combined addf (· + ·) (fun _ _ _ => rfl) add_assoc x r q l).trans (combined_sum _ l)

/-- Five levels of minima. -/
theorem le_levels_min (x : FVec Ideal S512x1024 .f32) (r : Fin 512) (q l : Fin 32) (b : EReal) :
    b ≤ grp (levels minimumf x) r q l ↔ ∀ k, b ≤ grp x r q k := by
  rw [levels_combined minimumf min (fun _ _ _ => rfl) min_assoc x r q l]
  exact le_combined_min _ l b

end Cert.KernelIdeal.Hand
-- ==== Proof.KernelWords.lean ====
/- The kernel's random words, read at an index: every lane has its own counter's word. -/
module

public import proofs.«01_k».proof.Proof.Lanes

@[expose] public section

namespace Cert.KernelIdeal.Hand

open Idealize.ShloMosaic Cert.KernelIdeal Cert.KernelIdeal.Gen Cert.Sampling

/-- One round on the kernel's two blocks of words is one round on every index's pair. -/
theorem round_apply (r s : BitVec 32) (hr : r.toNat < 32) (hs : s.toNat < 32) (x y : IVec S512x1024 32) (j : S512x1024.Idx) :
    (addi x y j, xori (ori (shli y (broadcast S512x1024 r)) (shrui y (broadcast S512x1024 s))) (addi x y) j)
      = round r s (x j, y j) := by
  have hl : shli y (broadcast S512x1024 r) j = y j <<< r := if_pos hr
  have hq : shrui y (broadcast S512x1024 s) j = y j >>> s := if_pos hs
  show ((_, (_ ||| _) ^^^ _) : BitVec 32 × BitVec 32) = _
  rw [hl, hq, BitVec.xor_comm]
  rfl

/-- The next pair of blocks holds the next pair of words. -/
theorem round_next {r s : BitVec 32} (hr : r.toNat < 32) (hs : s.toNat < 32) {x y x' y' : IVec S512x1024 32} {j : S512x1024.Idx}
    {p : BitVec 32 × BitVec 32} (h : (x j, y j) = p) (hx : x' = addi x y)
    (hy : y' = xori (ori (shli y (broadcast S512x1024 r)) (shrui y (broadcast S512x1024 s))) x') :
    (x' j, y' j) = round r s p := by
  subst hy hx
  rw [round_apply r s hr hs, h]

/-- The next pair of blocks holds the pair of words with the key's words added. -/
theorem inject_next {a b c : BitVec 32} {x y x' y' : IVec S512x1024 32} {j : S512x1024.Idx}
    {p : BitVec 32 × BitVec 32} (h : (x j, y j) = p) (hx : x' = addi x (broadcast S512x1024 a))
    (hy : y' = addi (addi y (broadcast S512x1024 b)) (broadcast S512x1024 c)) :
    (x' j, y' j) = inject a b c p := by
  subst hy hx h
  rfl

/-- The kernel's words after the first four rounds. -/
theorem words1 (i : grid0.Coords) (j : S512x1024.Idx) :
    (k0_pay10 i j, k0_pay11 i j) = roundsA (0#32, k0_pay3 i j) :=
  have h0 : (broadcast S512x1024 0#32 j, k0_pay3 i j) = (0#32, k0_pay3 i j) := rfl
  have h1 : (k0_pay4 i j, k0_pay5 i j) = _ := round_next (r := 13#32) (s := 19#32) (by decide) (by decide) h0 rfl rfl
  have h2 : (k0_pay6 i j, k0_pay7 i j) = _ := round_next (r := 15#32) (s := 17#32) (by decide) (by decide) h1 rfl rfl
  have h3 : (k0_pay8 i j, k0_pay9 i j) = _ := round_next (r := 26#32) (s := 6#32) (by decide) (by decide) h2 rfl rfl
  round_next (r := 6#32) (s := 26#32) (by decide) (by decide) h3 rfl rfl

/-- The kernel's words after the next four rounds and the injection that follows them. -/
theorem words2 (x y : IVec S512x1024 32) (j : S512x1024.Idx) :
    (addi (k0_pay20 x y k0_pay12) (broadcast S512x1024 466689008#32) j, k0_pay21 x y k0_pay12 j)
      = inject 466689008#32 0#32 2#32 (roundsB (inject 42#32 466689008#32 1#32 (x j, y j))) :=
  have h0 : (addi x k0_pay12 j, k0_pay13 y j) = _ := inject_next (a := 42#32) (b := 466689008#32) (c := 1#32) rfl rfl rfl
  have h1 : (k0_pay14 x y k0_pay12 j, k0_pay15 x y k0_pay12 j) = _ :=
    round_next (r := 17#32) (s := 15#32) (by decide) (by decide) h0 rfl rfl
  have h2 : (k0_pay16 x y k0_pay12 j, k0_pay17 x y k0_pay12 j) = _ :=
    round_next (r := 29#32) (s := 3#32) (by decide) (by decide) h1 rfl rfl
  have h3 : (k0_pay18 x y k0_pay12 j, k0_pay19 x y k0_pay12 j) = _ :=
    round_next (r := 16#32) (s := 16#32) (by decide) (by decide) h2 rfl rfl
  have h4 := round_next (r := 24#32) (s := 8#32) (x' := k0_pay20 x y k0_pay12) (by decide) (by decide) h3 rfl rfl
  inject_next (x' := addi (k0_pay20 x y k0_pay12) (broadcast S512x1024 466689008#32)) h4 rfl rfl

/-- The kernel's words after the first three of the four rounds that the printed text cuts in two, the fourth begun. -/
theorem words3 (u v x y : IVec S512x1024 32) (j : S512x1024.Idx) (p : BitVec 32 × BitVec 32)
    (hp : (addi (k0_pay20 u v k0_pay12) (broadcast S512x1024 466689008#32) j, k0_pay21 u v k0_pay12 j) = p)
    (hx : x = k0_pay22 u v k0_pay12) (hy : y = k0_pay23 u v k0_pay12) :
    (k0_pay35 x y j, k0_pay37 (k0_pay34 x y) (k0_pay35 x y) (k0_pay36 x y) 16#32 j)
      = round 16#32 16#32 (round 29#32 3#32 (round 17#32 15#32 (inject 0#32 42#32 3#32 (roundsA p)))) := by
  subst hx hy
  generalize hX : k0_pay22 u v k0_pay12 = X
  generalize hY : k0_pay23 u v k0_pay12 = Y
  have h1 : (X j, k0_pay24 X Y j) = _ :=
    round_next (r := 13#32) (s := 19#32) (by decide) (by decide) hp hX.symm (by rw [← hY]; rfl)
  have h2 : (k0_pay25 X Y j, k0_pay26 X Y j) = _ := round_next (r := 15#32) (s := 17#32) (by decide) (by decide) h1 rfl rfl
  have h3 : (k0_pay27 X Y j, k0_pay28 X Y j) = _ := round_next (r := 26#32) (s := 6#32) (by decide) (by decide) h2 rfl rfl
  have h4 := round_next (r := 6#32) (s := 26#32) (x' := k0_pay29 X Y) (by decide) (by decide) h3 rfl rfl
  have h5 : (addi (k0_pay29 X Y) (broadcast S512x1024 0#32) j, k0_pay30 X Y j) = _ :=
    inject_next (a := 0#32) (b := 42#32) (c := 3#32) h4 rfl rfl
  have h6 : (k0_pay31 X Y j, k0_pay32 X Y j) = _ := round_next (r := 17#32) (s := 15#32) (by decide) (by decide) h5 rfl rfl
  have h7 : (k0_pay33 X Y j, k0_pay34 X Y j) = _ := round_next (r := 29#32) (s := 3#32) (by decide) (by decide) h6 rfl rfl
  exact round_next (r := 16#32) (s := 16#32) (by decide) (by decide) h7 rfl rfl

/-- The kernel's words after the last rounds. -/
theorem words4 (a b c : IVec S512x1024 32) (j : S512x1024.Idx) :
    (k0_pay46 a b c 16#32 j, k0_pay47 a b c 16#32 j)
      = roundsA (inject 42#32 466689008#32 4#32 (round 24#32 8#32 (b j, k0_pay37 a b c 16#32 j))) :=
  have h1 := round_next (r := 24#32) (s := 8#32) (x := b) (y := k0_pay37 a b c 16#32) (x' := k0_pay38 a b c 16#32) (by decide)
    (by decide) rfl rfl rfl
  have h2 : (addi (k0_pay38 a b c 16#32) (broadcast S512x1024 42#32) j, k0_pay39 a b c 16#32 j) = _ :=
    inject_next (a := 42#32) (b := 466689008#32) (c := 4#32) h1 rfl rfl
  have h3 : (k0_pay40 a b c 16#32 j, k0_pay41 a b c 16#32 j) = _ :=
    round_next (r := 13#32) (s := 19#32) (by decide) (by decide) h2 rfl rfl
  have h4 : (k0_pay42 a b c 16#32 j, k0_pay43 a b c 16#32 j) = _ :=
    round_next (r := 15#32) (s := 17#32) (by decide) (by decide) h3 rfl rfl
  have h5 : (k0_pay44 a b c 16#32 j, k0_pay45 a b c 16#32 j) = _ :=
    round_next (r := 26#32) (s := 6#32) (by decide) (by decide) h4 rfl rfl
  round_next (r := 6#32) (s := 26#32) (by decide) (by decide) h5 rfl rfl

/-- The kernel's noise of the last two words is the Gumbel noise of their xor. -/
theorem noise_apply (x y z : IVec S512x1024 32) (j : S512x1024.Idx) :
    k0_pay49 (F := Ideal) x y z j = gumbel ((x j + z j) ^^^ (y j + 0#32 + 5#32)) := by
  have hq : ∀ w : IVec S512x1024 32, shrui w (broadcast S512x1024 9#32) j = w j >>> 9#32 := fun w => by
    unfold shrui IntOp.shrui
    exact if_pos (show (9#32).toNat < 32 by decide)
  unfold k0_pay49 gumbel
  show Ideal.ofBits .f32 0x00000000#32 - Ideal.log (Ideal.ofBits .f32 0x00000000#32 - Ideal.log (max _
    (Ideal.ofBits .f32 (shrui _ (broadcast S512x1024 9#32) j ||| _) - _ + _))) = _
  rw [hq, Ideal.ofBits_zero_f32, zero_sub, zero_sub]
  rfl

/-- The position of a class of a block's row, as the kernel computes it, with the key's second word added. -/
theorem start_apply (i : grid0.Coords) (r : Fin 512) (q l : Fin 32) :
    k0_pay3 i (ix2 r (lane q l)) = BitVec.ofNat 32 (1024 * (512 * (i 0).val + r) + 32 * q + l) + 42#32 := by
  pointwise [k0_pay3]
  show (BitVec.ofNat 32 (i 0).val * 512#32 + BitVec.ofNat 32 r) * 1024#32 + BitVec.ofNat 32 (lane q l) + 42#32 = _
  apply BitVec.eq_of_toNat_eq
  simp only [BitVec.toNat_add, BitVec.toNat_mul, BitVec.toNat_ofNat, lane]
  omega

/-- The kernel's noise of the words of a counter, the last injection being still to do. -/
theorem noise_word (x y : IVec S512x1024 32) (j : S512x1024.Idx) (n : BitVec 32)
    (h : (x j, y j) = roundsA (inject 42#32 466689008#32 4#32 (roundsB (inject 0#32 42#32 3#32 (roundsA
      (inject 466689008#32 0#32 2#32 (roundsB (inject 42#32 466689008#32 1#32 (roundsA (0#32, n + 42#32)))))))))) :
    k0_pay49 (F := Ideal) x y k0_pay48 j = gumbel (word n) := by
  have h5 : (x j + 466689008#32, y j + 0#32 + 5#32) = threefry 0#32 42#32 (0#32, n) := by
    have e : third 0#32 42#32 = 466689008#32 := by decide
    have z : (((0#32, n) : BitVec 32 × BitVec 32).1 + 0#32, ((0#32, n) : BitVec 32 × BitVec 32).2 + 42#32) = (0#32, n + 42#32) := rfl
    rw [threefry, e, z, ← h, inject]
  rw [noise_apply, word, ← h5]
  rfl

/-- The kernel's noises are the Gumbel noises of the counters' words. -/
theorem noises_apply (i : grid0.Coords) (x : FVec Ideal S512x1024 .f32) (r : Fin 512) (q l : Fin 32) :
    k0_pay77 (F := Ideal) i x (ix2 r (lane q l)) = gumbel (word (BitVec.ofNat 32 (1024 * (512 * (i 0).val + r) + 32 * q + l))) := by
  have h2 := words2 (k0_pay10 i) (k0_pay11 i) (ix2 r (lane q l))
  rw [words1, start_apply] at h2
  have h3 := words3 (k0_pay10 i) (k0_pay11 i) (k0_pay72 (F := Ideal) i x) (k0_pay73 (F := Ideal) i x) _ _ h2 rfl rfl
  have h4 := words4 (k0_pay74 (F := Ideal) i x) (k0_pay75 (F := Ideal) i x) (k0_pay76 (F := Ideal) i x) (ix2 r (lane q l))
  rw [show (k0_pay75 (F := Ideal) i x (ix2 r (lane q l)), k0_pay37 (k0_pay74 (F := Ideal) i x) (k0_pay75 (F := Ideal) i x) (k0_pay76 (F := Ideal) i x) 16#32 (ix2 r (lane q l))) = _
    from h3] at h4
  exact noise_word _ _ _ _ h4

end Cert.KernelIdeal.Hand
-- ==== Proof.KernelValue.lean ====
/- The kernel's result on a block: in every group, the one-hot row of the class drawn. -/
module

public import proofs.«01_k».proof.Proof.KernelWords

@[expose] public section

namespace Cert.KernelIdeal.Hand

open Idealize.ShloMosaic Cert.KernelIdeal Cert.KernelIdeal.Gen Cert.Sampling

/-! ## The block's stages -/

/-- The weights of a block's classes. -/
noncomputable def weighed (x : FVec Ideal S512x1024 .f32) : FVec Ideal S512x1024 .f32 := exp (subf x (levels maximumf x))

/-- The scores of a block's classes from their weights and noises. -/
noncomputable def scored (e g : FVec Ideal S512x1024 .f32) : FVec Ideal S512x1024 .f32 :=
  addf (log (addf (broadcast S512x1024 (Scalar.ofBits .f32 0x39A3D70A#32))
    (mulf (broadcast S512x1024 (Scalar.ofBits .f32 0x3F7D70A4#32)) (divf e (levels addf e))))) g

/-- The numbers of the lanes in their groups. -/
noncomputable abbrev numbers : FVec Ideal S512x1024 .f32 := k0_pay63 (F := Ideal) k0_pay2

/-- The number of every lane whose score is its group's greatest, and 64 elsewhere. -/
noncomputable def candidates (v : FVec Ideal S512x1024 .f32) : FVec Ideal S512x1024 .f32 :=
  select (cmpf .oeq v (levels maximumf v)) numbers (broadcast S512x1024 (Scalar.ofBits .f32 0x42800000#32))

/-- One at every lane whose number is its group's least candidate, and zero elsewhere. -/
noncomputable def chosen (v : FVec Ideal S512x1024 .f32) : FVec Ideal S512x1024 .f32 :=
  select (cmpf .oeq numbers (levels minimumf (candidates v))) (broadcast S512x1024 (Scalar.ofBits .f32 0x3F800000#32))
    (broadcast S512x1024 (Scalar.ofBits .f32 0x00000000#32))

/-- The body's result for the output window is the stages' result on the input window's block. -/
theorem out_eq (i : grid0.Coords) (x : FVec Ideal S512x1024 .f32) :
    out0_1 (F := Ideal) i x = chosen (scored (weighed x) (k0_pay77 (F := Ideal) i x)) := by
  have hz : (![0, 0] : Fin 2 → Nat) = fun _ => 0 := funext fun a => by fin_cases a <;> rfl
  have hx : View.ld (Val := Elt Ideal) (e' := .f32) x r0_0 = x := by
    unfold r0_0
    rw [View.ld_unit_zero hz]
  have h81 : k0_pay81 (F := Ideal) i x = weighed x := by
    unfold k0_pay81 k0_pay80 k0_pay79 k0_pay78
    rw [hx]
    rfl
  have h86 : k0_pay86 (F := Ideal) i x = scored (weighed x) (k0_pay77 (F := Ideal) i x) := by
    rw [← h81]
    rfl
  unfold out0_1
  refine (View.canon_unit_zero hz _ _).trans ?_
  rw [← h86]
  rfl

/-! ## The stages at an index -/

/-- A class's weight, as the kernel computes it. -/
theorem weighed_apply (x : FVec Ideal S512x1024 .f32) (r : Fin 512) (q l : Fin 32) :
    grp (weighed x) r q l = weight (grp x r q) l :=
  congrArg (fun t => Ideal.exp (grp x r q l - t)) (levels_max x r q l)

/-- The kernel's smoothing constant is a hundredth's 32nd part, exactly. -/
theorem smoothing : Ideal.ofBits .f32 0x39A3D70A#32
    = Ideal.div (Ideal.ofBits .f32 0x3C23D70A#32) (Ideal.ofBits .f32 0x42000000#32) := by
  rw [show Ideal.ofBits .f32 0x42000000#32 = ((32 : ℝ) : EReal) by simp [Ideal.ofBits, Ideal.ieee, -EReal.coe_mul]; norm_num,
    Ideal.div_coe (by norm_num)]
  simp [Ideal.ofBits, Ideal.ieee, -EReal.coe_mul]
  rw [← EReal.coe_mul]
  norm_num

/-- A class's score, as the kernel computes it. -/
theorem scored_apply (x g : FVec Ideal S512x1024 .f32) (r : Fin 512) (q l : Fin 32) :
    grp (scored (weighed x) g) r q l = score (grp x r q) (grp g r q) l := by
  show Ideal.log (Ideal.ofBits .f32 0x39A3D70A#32 + Ideal.ofBits .f32 0x3F7D70A4#32
    * Ideal.div (grp (weighed x) r q l) (grp (levels addf (weighed x)) r q l)) + grp g r q l = _
  rw [levels_sum, smoothing, weighed_apply, Finset.sum_congr rfl fun k _ => weighed_apply x r q k]
  rfl

/-- A lane's number as a real number. -/
theorem numbers_apply (r : Fin 512) (q l : Fin 32) : grp numbers r q l = ((l.val : ℝ) : EReal) := by
  show (((k0_pay2 (ix2 r (lane q l))).toInt : ℝ) : EReal) = _
  rw [number_apply]
  have h : ∀ l : Fin 32, (BitVec.ofNat 32 l.val).toInt = l.val := by decide
  rw [h l]
  norm_cast

/-- A choice by a comparison for equality. -/
theorem select_eq (a b c d : EReal) [Decidable (a = b)] :
    Scalar.select (Ideal.cmp .oeq a b) c d = if a = b then c else d := by
  by_cases h : a = b <;> simp [Scalar.select, Ideal.cmp, h]

/-- A lane's candidate: its number where its score is its group's greatest, and 64 elsewhere. -/
theorem candidates_apply (v : FVec Ideal S512x1024 .f32) (r : Fin 512) (q l : Fin 32) :
    ((∀ k, grp v r q k ≤ grp v r q l) ∧ grp (candidates v) r q l = ((l.val : ℝ) : EReal))
      ∨ ((¬ ∀ k, grp v r q k ≤ grp v r q l) ∧ grp (candidates v) r q l = ((64 : ℝ) : EReal)) := by
  classical
  have hc : grp (candidates v) r q l
      = if grp v r q l = grp (levels maximumf v) r q l then grp numbers r q l else Ideal.ofBits .f32 0x42800000#32 :=
    select_eq _ _ _ _
  have h64 : Ideal.ofBits .f32 0x42800000#32 = ((64 : ℝ) : EReal) := by simp [Ideal.ofBits, Ideal.ieee, -EReal.coe_mul]; norm_num
  rw [hc, levels_max, numbers_apply, h64]
  have hle : grp v r q l ≤ top (grp v r q) := Finset.le_sup (f := grp v r q) (Finset.mem_univ l)
  by_cases h : grp v r q l = top (grp v r q)
  · exact Or.inl ⟨fun k => h ▸ Finset.le_sup (f := grp v r q) (Finset.mem_univ k), if_pos h⟩
  · exact Or.inr ⟨fun hk => h (le_antisymm hle (Finset.sup_le fun k _ => hk k)), if_neg h⟩

/-- The least candidate is the winner's number. -/
theorem least_apply (v : FVec Ideal S512x1024 .f32) (r : Fin 512) (q l w : Fin 32) (hw : Wins (grp v r q) w) :
    grp (levels minimumf (candidates v)) r q l = ((w.val : ℝ) : EReal) := by
  apply le_antisymm
  · have h := (le_levels_min (candidates v) r q l _).mp le_rfl w
    rcases candidates_apply v r q w with ⟨-, e⟩ | ⟨n, -⟩
    · exact h.trans e.le
    · exact absurd hw.1 n
  · rw [le_levels_min]
    intro k
    rcases candidates_apply v r q k with ⟨hk, e⟩ | ⟨-, e⟩
    · rw [e, EReal.coe_le_coe_iff, Nat.cast_le]
      exact not_lt.mp fun hlt => absurd (hk w) (not_le.mpr (hw.2 k hlt))
    · rw [e, EReal.coe_le_coe_iff]
      have : (w.val : ℝ) ≤ 31 := by exact_mod_cast (by omega : w.val ≤ 31)
      linarith

/-- The kernel chooses the class drawn: the first lane whose score is its group's greatest. -/
theorem chosen_apply (v : FVec Ideal S512x1024 .f32) (r : Fin 512) (q l : Fin 32) :
    grp (chosen v) r q l = drawn (grp v r q) l := by
  classical
  obtain ⟨w, hw⟩ := exists_wins (grp v r q)
  have hc : grp (chosen v) r q l = if grp numbers r q l = grp (levels minimumf (candidates v)) r q l
      then Ideal.ofBits .f32 0x3F800000#32 else Ideal.ofBits .f32 0x00000000#32 := select_eq _ _ _ _
  rw [hc, least_apply v r q l w hw, numbers_apply, Ideal.ofBits_one_f32, Ideal.ofBits_zero_f32, drawn]
  refine if_congr ?_ rfl rfl
  rw [EReal.coe_eq_coe_iff, Nat.cast_inj, Fin.val_inj]
  exact ⟨fun h => h ▸ hw, fun h => h.unique hw⟩

/-- The body's result at a class of a row of the block. -/
theorem out_apply (i : grid0.Coords) (x : FVec Ideal S512x1024 .f32) (r : Fin 512) (q l : Fin 32) :
    out0_1 (F := Ideal) i x (ix2 r (lane q l))
      = drawn (score (grp x r q) fun l => gumbel (word (BitVec.ofNat 32 (1024 * (512 * (i 0).val + r) + 32 * q + l)))) l := by
  rw [out_eq]
  refine (chosen_apply _ r q l).trans (congrArg (drawn · l) (funext fun k => (scored_apply x _ r q k).trans ?_))
  exact congrArg (score (grp x r q) · k) (funext fun l => noises_apply i x r q l)

end Cert.KernelIdeal.Hand
-- ==== Proof.KernelRun.lean ====
/- The kernel's result array, read at an index. -/
module

public import proofs.«01_k».proof.Proof.KernelValue
public import proofs.«01_k».proof.Proof.Gen.KernelIdeal.Value

@[expose] public section

namespace Cert.KernelIdeal.Hand

open Idealize.ShloMosaic Idealize.ShloMosaic.TcCoe Idealize.SL.Sem Cert.KernelIdeal Cert.KernelIdeal.Gen Cert.Sampling

variable (m : (ℓ : Loc nD τ sig) → Buf (Elt Ideal) ℓ)

/-- Grid point `t` reads and writes block `t`. -/
theorem point_facts : ∀ t : Fin cfg0.N, t.val < 32 ∧ (grid0.coords t 0).val = t.val
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- There are 32 grid points. -/
theorem point_lt (t : Fin cfg0.N) : t.val < 32 := (point_facts t).1

/-- The row `r` of block `t`. -/
def row (t : ℕ) (ht : t < 32) (r : Fin 512) : Fin 16384 := ⟨512 * t + r, by omega⟩

/-- Where the output window's block lies in the result array. -/
theorem emb1 (t : Fin cfg0.N) (r : Fin 512) (j : Fin 1024) :
    ((cfg0.win 1).blk t).view.emb (ix2 r j : S512x1024.Idx) = (ix2 (row t (point_lt t) r) j : S16384x1024.Idx) := by
  obtain ⟨-, -, -, -, e0, e1⟩ := point_facts t
  funext a; apply Fin.ext
  match a with
  | ⟨0, _⟩ => show win0_1.index t (0 : Fin 2) * 512 + 1 * r.val = 512 * t.val + r.val; omega
  | ⟨1, _⟩ => show win0_1.index t (1 : Fin 2) * 1024 + 1 * j.val = j.val; omega

/-- Where the input window's block lies in the array of logits. -/
theorem emb0 (t : Fin cfg0.N) (r : Fin 512) (j : Fin 1024) :
    ((cfg0.win 0).blk t).view.emb (ix2 r j : S512x1024.Idx) = (ix2 (row t (point_lt t) r) j : S16384x1024.Idx) := by
  obtain ⟨-, -, e0, e1, -, -⟩ := point_facts t
  funext a; apply Fin.ext
  match a with
  | ⟨0, _⟩ => show win0_0.index t (0 : Fin 2) * 512 + 1 * r.val = 512 * t.val + r.val; omega
  | ⟨1, _⟩ => show win0_0.index t (1 : Fin 2) * 1024 + 1 * j.val = j.val; omega

/-- The input window's block at a grid point. -/
theorem input_apply (c : Dev nD) (t : Fin cfg0.N) (r : Fin 512) (j : Fin 1024) :
    iblk m c 0 t (ix2 r j : S512x1024.Idx) = m ((c : Thread nD τ).loc main_arg0) (ix2 (row t (point_lt t) r) j : S16384x1024.Idx) := by
  show V m c main_arg0 (((cfg0.win 0).blk t).view.emb (ix2 r j : S512x1024.Idx)) = _
  rw [emb0]

/-- The kernel's result array at a class of a row of a block. -/
theorem block_apply (c : Dev nD) (t : Fin cfg0.N) (r : Fin 512) (q l : Fin 32) :
    (dats m 0 c).arrAt 1 cfg0.N (ix2 (row t (point_lt t) r) (lane q l) : S16384x1024.Idx)
      = drawn (score (fun l => m ((c : Thread nD τ).loc main_arg0) (ix2 (row t (point_lt t) r) (lane q l) : S16384x1024.Idx))
          fun l => gumbel (word (BitVec.ofNat 32 (1024 * (512 * t.val + r) + 32 * q + l)))) l := by
  have b := congrFun (Value.blocks1 m c t (flush0_1 t)) (ix2 r (lane q l) : S512x1024.Idx)
  rw [Value.flushed1] at b
  have b' : (dats m 0 c).arrAt 1 cfg0.N (((cfg0.win 1).blk t).view.emb (ix2 r (lane q l) : S512x1024.Idx))
    = out0_1 (F := Ideal) (grid0.coords t) (iblk m c 0 t) (ix2 r (lane q l) : S512x1024.Idx) := b
  rw [emb1] at b'
  refine b'.trans ((out_apply (grid0.coords t) (iblk m c 0 t) r q l).trans ?_)
  rw [(point_facts t).2.1]
  exact congrArg (fun x => drawn (score x _) l) (funext fun l => input_apply m c t r (lane q l))

/-- The kernel's result array at a class of a row. -/
theorem result_apply (c : Dev nD) (r : Fin 16384) (q l : Fin 32) :
    (dats m 0 c).arrAt 1 cfg0.N (ix2 r (lane q l) : S16384x1024.Idx)
      = drawn (score (fun l => m ((c : Thread nD τ).loc main_arg0) (ix2 r (lane q l) : S16384x1024.Idx))
          fun l => gumbel (word (BitVec.ofNat 32 (1024 * r + 32 * q + l)))) l := by
  have hN : cfg0.N = 32 := by decide +kernel
  have h := block_apply m c ⟨r.val / 512, by omega⟩ ⟨r.val % 512, by omega⟩ q l
  have hr : row (r.val / 512) (by omega) ⟨r.val % 512, by omega⟩ = r := Fin.ext (by simp only [row]; omega)
  have hn : 512 * (r.val / 512) + r.val % 512 = r.val := by omega
  rw [hn] at h
  rw [hr] at h
  exact h

end Cert.KernelIdeal.Hand
-- ==== Proof.Finite.lean ====
/- At finite logits every probability is a real number. -/
module

public import proofs.«01_k».proof.Proof.Sampling

@[expose] public section

namespace Cert.Sampling

open Idealize.ShloMosaic

/-- A sum of real numbers is their sum as extended reals. -/
theorem coe_sum (f : Fin 32 → ℝ) : ∑ k, ((f k : ℝ) : EReal) = ((∑ k, f k : ℝ) : EReal) := by
  have h : ∀ s : Finset (Fin 32), ∑ k ∈ s, ((f k : ℝ) : EReal) = ((∑ k ∈ s, f k : ℝ) : EReal) := fun s => by
    induction s using Finset.induction_on with
    | empty => simp
    | insert a s ha ih => rw [Finset.sum_insert ha, Finset.sum_insert ha, ih, EReal.coe_add]
  exact h _

/-- A number whose absolute value is below infinity is real. -/
theorem real_of_abs_lt {x : EReal} (h : max x (-x) < ⊤) : ∃ a : ℝ, x = a := by
  induction x using EReal.rec with
  | bot => simp at h
  | top => simp at h
  | coe a => exact ⟨a, rfl⟩

/-- At finite logits a class's weight is the exponential of a real number. -/
theorem weight_real (x : Fin 32 → EReal) (a : Fin 32 → ℝ) (hx : ∀ k, x k = a k) :
    ∃ t : ℝ, ∀ l, weight x l = ((Real.exp (a l - t) : ℝ) : EReal) := by
  obtain ⟨k, -, hk⟩ := Finset.exists_mem_eq_sup Finset.univ ⟨0, Finset.mem_univ _⟩ x
  refine ⟨a k, fun l => ?_⟩
  rw [weight, top, hk, hx, hx, ← EReal.coe_sub]
  rfl

/-- At finite logits a class's probability is a real number. -/
theorem prob_real (x : Fin 32 → EReal) (hx : ∀ k, ∃ a : ℝ, x k = a) (l : Fin 32) : ∃ p : ℝ, prob x l = p := by
  choose a ha using hx
  obtain ⟨t, ht⟩ := weight_real x a ha
  have hs : ∑ k, weight x k = ((∑ k, Real.exp (a k - t) : ℝ) : EReal) := by
    rw [← coe_sum]
    exact Finset.sum_congr rfl fun k _ => ht k
  have hpos : 0 < ∑ k, Real.exp (a k - t) := Finset.sum_pos (fun k _ => Real.exp_pos _) ⟨0, Finset.mem_univ _⟩
  obtain ⟨u, hu⟩ : ∃ u : ℝ, Ideal.ofBits .f32 0x3C23D70A#32 = u := ⟨_, by simp [Ideal.ofBits, Ideal.ieee, -EReal.coe_mul]; rfl⟩
  obtain ⟨v, hv⟩ : ∃ v : ℝ, Ideal.ofBits .f32 0x3F7D70A4#32 = v := ⟨_, by simp [Ideal.ofBits, Ideal.ieee, -EReal.coe_mul]; rfl⟩
  have h32 : Ideal.ofBits .f32 0x42000000#32 = ((32 : ℝ) : EReal) := by simp [Ideal.ofBits, Ideal.ieee, -EReal.coe_mul]; norm_num
  rw [prob, hs, ht, hu, hv, h32, Ideal.div_coe (by norm_num), Ideal.div_coe hpos.ne']
  exact ⟨_, by rw [← EReal.coe_mul, ← EReal.coe_mul, ← EReal.coe_mul, ← EReal.coe_add]⟩

/-- At finite logits a probability's difference from itself is zero. -/
theorem prob_sub_self (x : Fin 32 → EReal) (hx : ∀ k, ∃ a : ℝ, x k = a) (l : Fin 32) : prob x l - prob x l = 0 := by
  obtain ⟨p, hp⟩ := prob_real x hx l
  rw [hp, ← EReal.coe_sub, sub_self, EReal.coe_zero]

end Cert.Sampling
-- ==== Proof.Agree.lean ====
/- The reference's run, and its result beside the kernel's. -/
module

public import proofs.«01_k».proof.Defs
public import proofs.«01_k».proof.Proof.RefRun
public import proofs.«01_k».proof.Proof.KernelRun
public import proofs.«01_k».proof.Proof.Finite

@[expose] public section

namespace Cert.Agree

open Idealize.ShloMosaic Idealize.SL.Sem Cert.SingleAssignment Cert.Sampling

/-- An array in rows of 1024 lanes read as an array in groups of 32. -/
theorem grouped_apply (x : FVec Ideal ReferenceIdeal.S16384x1024 .f32)
    (h : ReferenceIdeal.S16384x1024.ShapeCasts ReferenceIdeal.S16384x32x32) (a : Fin 16384) (q l : Fin 32) :
    shapeCast ReferenceIdeal.S16384x32x32 x h (ix3 a q l) = x (ix2 a (KernelIdeal.Hand.lane q l)) := by
  refine shapeCast_apply x h _ _ ?_
  rw [Shape.rowMajor_val_two, Shape.rowMajor_val_three]
  show a.val * 1024 + (32 * q.val + l.val) = (a.val * 32 + q.val) * 32 + l.val
  omega

/-- An array in groups of 32 read as an array in rows of 1024 lanes. -/
theorem rowed_apply (x : FVec Ideal ReferenceIdeal.S16384x32x32 .f32)
    (h : ReferenceIdeal.S16384x32x32.ShapeCasts ReferenceIdeal.S16384x1024) (a : Fin 16384) (q l : Fin 32) :
    shapeCast ReferenceIdeal.S16384x1024 x h (ix2 a (KernelIdeal.Hand.lane q l)) = x (ix3 a q l) := by
  refine shapeCast_apply x h _ _ ?_
  rw [Shape.rowMajor_val_two, Shape.rowMajor_val_three]
  show (a.val * 32 + q.val) * 32 + l.val = a.val * 1024 + (32 * q.val + l.val)
  omega

/-- The reference's run: it keeps its argument, and its result holds at a class of a row what `refRow` says. -/
theorem ref_run (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ fun r => ∀ c : Dev ReferenceIdeal.nD,
        (∀ (a : Fin 16384) (q l : Fin 32),
          r.2.mem ((c.tc : Thread ReferenceIdeal.nD ReferenceIdeal.τ).loc ReferenceIdeal.main_v71)
              (ix2 a (KernelIdeal.Hand.lane q l) : ReferenceIdeal.S16384x1024.Idx)
            = ReferenceIdeal.Hand.refRow (shapeCast ReferenceIdeal.S16384x32x32
                (m ((c.tc : Thread ReferenceIdeal.nD ReferenceIdeal.τ).loc ReferenceIdeal.main_arg0))
                ReferenceIdeal.Gen.shapeCasts_S16384x1024_S16384x32x32) a q l)
        ∧ r.2.mem ((c.tc : Thread ReferenceIdeal.nD ReferenceIdeal.τ).loc ReferenceIdeal.main_arg0)
          = m ((c.tc : Thread ReferenceIdeal.nD ReferenceIdeal.τ).loc ReferenceIdeal.main_arg0) := by
  refine (θ_run ReferenceIdeal.defs _ _).mono (fun r h c => ?_)
    (run_line (by decide) (by decide) ReferenceIdeal.defs ReferenceIdeal.main ReferenceIdeal.Hand.main_line m g)
  obtain ⟨W, ⟨h0, h1, h2⟩, hlow, hb⟩ := h c
  have harg : ReferenceIdeal.Hand.rd W ReferenceIdeal.main_arg0
      = m ((c.tc : Thread ReferenceIdeal.nD ReferenceIdeal.τ).loc ReferenceIdeal.main_arg0) := hlow _ (by decide)
  refine ⟨fun a q l => ?_, (hb _).trans harg⟩
  have e : r.2.mem ((c.tc : Thread ReferenceIdeal.nD ReferenceIdeal.τ).loc ReferenceIdeal.main_v71)
      = ReferenceIdeal.Hand.rd W ReferenceIdeal.main_v71 := hb _
  rw [e, h2, rowed_apply, h1, h0, harg]

/-- At finite logits the reference's row is the one-hot row of the class drawn. -/
theorem refRow_eq (x : FVec Ideal ReferenceIdeal.S16384x32x32 .f32) (a : Fin 16384) (q l : Fin 32)
    (hx : ∀ k, ∃ b : ℝ, ReferenceIdeal.Hand.groupOf x a q k = b) :
    ReferenceIdeal.Hand.refRow x a q l
      = drawn (score (ReferenceIdeal.Hand.groupOf x a q) (ReferenceIdeal.Hand.noises a q)) l := by
  rw [ReferenceIdeal.Hand.refRow, prob_sub_self _ hx, add_zero]

/-- Every index of an array of rows is a lane of a group of a row. -/
theorem exists_index (i : KernelIdeal.S16384x1024.Idx) :
    ∃ (a : Fin 16384) (q l : Fin 32), i = ix2 a (KernelIdeal.Hand.lane q l) := by
  have h1 : (i 1).val < 1024 := (i 1).isLt
  refine ⟨i 0, ⟨(i 1).val / 32, by omega⟩, ⟨(i 1).val % 32, by omega⟩, funext fun b => Fin.ext ?_⟩
  match b with
  | ⟨0, _⟩ => rfl
  | ⟨1, _⟩ => show (i 1).val = 32 * ((i 1).val / 32) + (i 1).val % 32; omega

/-- Where the precondition holds every logit is a real number. -/
theorem logit_real [hPre : Cert.Pre_finite.Facts] (m : (ℓ : Loc KernelIdeal.nD KernelIdeal.τ KernelIdeal.sig) → Buf (Elt Ideal) ℓ)
    (hm : Cert.Pre_KernelIdeal_finite m) (c : Dev KernelIdeal.nD) (i : KernelIdeal.S16384x1024.Idx) :
    ∃ b : ℝ, m ((c.tc : Thread KernelIdeal.nD KernelIdeal.τ).loc KernelIdeal.main_arg0) i = (b : EReal) := by
  have key : ∀ y : EReal, Ideal.cmp .olt (max y (-y)) (Ideal.ofBits .f32 0x7F800000#32) = 1#1 → ∃ b : ℝ, y = b := fun y h => by
    rw [show Ideal.ofBits .f32 0x7F800000#32 = ⊤ by simp [Ideal.ofBits, Ideal.ieee]] at h
    refine real_of_abs_lt ?_
    by_contra hn
    rw [Ideal.cmp, decide_eq_false hn] at h
    exact absurd h (by decide)
  exact key _ (congrFun (hm c) i)

/-- The kernel and the reference return equal results. -/
theorem agree [hPre : Cert.Pre_finite.Facts] :
    Cert.algebraic_KernelIdeal_ReferenceIdeal_pre_finite (hKernelIdeal := KernelIdeal.Gen.facts)
      (hReferenceIdeal := ReferenceIdeal.Gen.facts) := by
  intro m g m' g' hm hargs
  refine ⟨fun c => (KernelIdeal.Gen.dats m 0 c).arrAt 1 KernelIdeal.cfg0.N, KernelIdeal.Value.run_blocks m g, ?_⟩
  refine (θ_run ReferenceIdeal.defs _ _).mono (fun r h c => ⟨?_, (h c).2⟩) (ref_run m' g')
  refine funext fun (i : KernelIdeal.S16384x1024.Idx) => ?_
  obtain ⟨a, q, l, rfl⟩ := exists_index i
  refine ((h c).1 a q l).trans ?_
  have hg : ReferenceIdeal.Hand.groupOf (shapeCast ReferenceIdeal.S16384x32x32
      (m' ((c.tc : Thread ReferenceIdeal.nD ReferenceIdeal.τ).loc ReferenceIdeal.main_arg0))
        ReferenceIdeal.Gen.shapeCasts_S16384x1024_S16384x32x32) a q
      = fun k => m ((c.tc : Thread KernelIdeal.nD KernelIdeal.τ).loc KernelIdeal.main_arg0)
        (ix2 a (KernelIdeal.Hand.lane q k) : KernelIdeal.S16384x1024.Idx) :=
    funext fun k => (grouped_apply _ _ a q k).trans (congrFun (hargs c) _)
  rw [refRow_eq _ a q l (fun k => (logit_real m hm c (ix2 a (KernelIdeal.Hand.lane q k))).imp fun b hb => (congrFun hg k).trans hb), hg]
  exact (KernelIdeal.Hand.result_apply m c a q l).symm

end Cert.Agree
-- ==== Proof.lean ====
/- The certificate's claims: the frames, the ideal pass's rewrites (none) and the equality of the kernel's result with
   the reference's (Proof/Agree.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its argument and leaves every semaphore at zero: it has none. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, Idealize.ShloMosaic.sem_eq_zero_of_no_sems (by decide) r.2⟩) (Cert.Agree.ref_run m g)

/-- Every claim of the certificate. -/
theorem claim : Cert.Claim :=
  have hPre : Cert.Pre_finite.Facts := ⟨by decide⟩
  ⟨Cert.Kernel.Gen.facts, Cert.KernelIdeal.Gen.facts, Cert.ReferenceIdeal.Gen.facts, hPre,
    fun m g _ => Cert.Kernel.Gen.frame m g,
    fun m g _ => Cert.KernelIdeal.Gen.frame m g,
    fun m g _ => Cert.KernelIdeal.Gen.frame m g,
    fun m g _ => ref_frame m g,
    fun m g _ => ref_frame m g,
    trivial,
    Cert.Agree.agree⟩

end Cert.Proof

end
